-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 2048]⟩ ⟨3, ![8, 2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S2x128x2048 : Shape := ⟨3, ![2, 128, 2048]⟩
abbrev S7x128x2048 : Shape := ⟨3, ![7, 128, 2048]⟩
abbrev S2 : Shape := ⟨1, ![2]⟩
abbrev S7 : Shape := ⟨1, ![7]⟩
abbrev S_ : Shape := ⟨0, ![]⟩
abbrev S1x128x2048 : Shape := ⟨3, ![1, 128, 2048]⟩
abbrev S128x2048 : Shape := ⟨2, ![128, 2048]⟩
abbrev S1 : Shape := ⟨1, ![1]⟩
abbrev S1x2048 : Shape := ⟨2, ![1, 2048]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S2048, .bf16⟩
  | .hbm, ⟨3, _⟩ => ⟨S2048x2048, .bf16⟩
  | .local _ .vmem, ⟨0, _⟩ => ⟨S1x2048x2048, .bf16⟩
  | .local _ .vmem, ⟨1, _⟩ => ⟨S2048x2048, .bf16⟩
  | .local _ .vmem, ⟨2, _⟩ => ⟨S2048, .bf16⟩
  | .local _ .vmem, ⟨3, _⟩ => ⟨S2048x2048, .bf16⟩
  | .local _ .vmem, ⟨4, _⟩ => ⟨S2x128x2048, .bf16⟩
  | .local _ .vmem, ⟨5, _⟩ => ⟨S7x128x2048, .bf16⟩
  | .local _ .vmem, ⟨6, _⟩ => ⟨S2x128x2048, .bf16⟩
  | .local _ .vmem, ⟨7, _⟩ => ⟨S7x128x2048, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 3 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v13 : BitVec 32 := Scalar.muli v2 c128_i32
  let v14 : Index := Scalar.indexCast v13
  let c0_10 : Index := 0#32
  ![0, v14.toNat, 0]
def k0_off2 (d0 : Dev nD) : Fin 3 → Nat :=
  let c0_15 : Index := 0#32
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_14 : BitVec 32 := 128#32
  let v20 : BitVec 32 := Scalar.muli v2 c128_i32_14
  let v21 : BitVec 32 := Scalar.addi c1024_i32 v20
  let v22 : Index := Scalar.indexCast v21
  let c0_16 : Index := 0#32
  ![0, v22.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_24 : BitVec 32 := 1#32
  let v28 : BitVec 32 := Scalar.muli v4 c1_i32_24
  let v29 : BitVec 32 := Scalar.addi c0_i32_25 v28
  v29.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_34 : BitVec 32 := 1#32
  let v38 : BitVec 32 := Scalar.muli v7 c1_i32_34
  let v39 : BitVec 32 := Scalar.addi c0_i32_35 v38
  v39.toNat
def k0_off3 (d0 : Dev nD) (c1_i32_78 : BitVec 32) : Fin 3 → Nat :=
  let c0_87 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v76 : BitVec 32 := Scalar.subi v2 c1_i32_78
  let c8_i32_79 : BitVec 32 := 8#32
  let v77 : BitVec 32 := Scalar.addi v76 c8_i32_79
  let c8_i32_80 : BitVec 32 := 8#32
  let v78 : BitVec 32 := Scalar.remsi v77 c8_i32_80
  let c128_i32_86 : BitVec 32 := 128#32
  let v84 : BitVec 32 := Scalar.muli v78 c128_i32_86
  let v85 : Index := Scalar.indexCast v84
  let c0_88 : Index := 0#32
  ![0, v85.toNat, 0]
def k0_off4 (d0 : Dev nD) (c1_i32_81 : BitVec 32) : Fin 3 → Nat :=
  let c0_94 : Index := 0#32
  let c1024_i32_93 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v79 : BitVec 32 := Scalar.addi v2 c1_i32_81
  let c8_i32_82 : BitVec 32 := 8#32
  let v80 : BitVec 32 := Scalar.remsi v79 c8_i32_82
  let c128_i32_92 : BitVec 32 := 128#32
  let v93 : BitVec 32 := Scalar.muli v80 c128_i32_92
  let v94 : BitVec 32 := Scalar.addi c1024_i32_93 v93
  let v95 : Index := Scalar.indexCast v94
  let c0_95 : Index := 0#32
  ![0, v95.toNat, 0]
def k0_dev5 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_105 : BitVec 32 := 1#32
  let v108 : BitVec 32 := Scalar.muli v4 c1_i32_105
  let v109 : BitVec 32 := Scalar.addi c0_i32_106 v108
  v109.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_115 : BitVec 32 := 1#32
  let v118 : BitVec 32 := Scalar.muli v7 c1_i32_115
  let v119 : BitVec 32 := Scalar.addi c0_i32_116 v118
  v119.toNat
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_187 : BitVec 32 := 1#32
  let v188 : BitVec 32 := Scalar.muli v4 c1_i32_187
  let v189 : BitVec 32 := Scalar.addi c0_i32_188 v188
  v189.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_197 : BitVec 32 := 1#32
  let v198 : BitVec 32 := Scalar.muli v7 c1_i32_197
  let v199 : BitVec 32 := Scalar.addi c0_i32_198 v198
  v199.toNat
def k0_dev9 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_267 : BitVec 32 := 1#32
  let v268 : BitVec 32 := Scalar.muli v4 c1_i32_267
  let v269 : BitVec 32 := Scalar.addi c0_i32_268 v268
  v269.toNat
def k0_dev10 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_277 : BitVec 32 := 1#32
  let v278 : BitVec 32 := Scalar.muli v7 c1_i32_277
  let v279 : BitVec 32 := Scalar.addi c0_i32_278 v278
  v279.toNat
def k0_dev11 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_347 : BitVec 32 := 1#32
  let v348 : BitVec 32 := Scalar.muli v4 c1_i32_347
  let v349 : BitVec 32 := Scalar.addi c0_i32_348 v348
  v349.toNat
def k0_dev12 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_357 : BitVec 32 := 1#32
  let v358 : BitVec 32 := Scalar.muli v7 c1_i32_357
  let v359 : BitVec 32 := Scalar.addi c0_i32_358 v358
  v359.toNat
def k0_dev13 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_427 : BitVec 32 := 1#32
  let v428 : BitVec 32 := Scalar.muli v4 c1_i32_427
  let v429 : BitVec 32 := Scalar.addi c0_i32_428 v428
  v429.toNat
def k0_dev14 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_437 : BitVec 32 := 1#32
  let v438 : BitVec 32 := Scalar.muli v7 c1_i32_437
  let v439 : BitVec 32 := Scalar.addi c0_i32_438 v438
  v439.toNat
def k0_dev15 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_507 : BitVec 32 := 1#32
  let v508 : BitVec 32 := Scalar.muli v4 c1_i32_507
  let v509 : BitVec 32 := Scalar.addi c0_i32_508 v508
  v509.toNat
def k0_dev16 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_517 : BitVec 32 := 1#32
  let v518 : BitVec 32 := Scalar.muli v7 c1_i32_517
  let v519 : BitVec 32 := Scalar.addi c0_i32_518 v518
  v519.toNat
def k0_off5 (d0 : Dev nD) : Fin 3 → Nat :=
  let c0_567 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_562 : BitVec 32 := 1#32
  let v559 : BitVec 32 := Scalar.addi v2 c1_i32_562
  let c8_i32_563 : BitVec 32 := 8#32
  let v560 : BitVec 32 := Scalar.remsi v559 c8_i32_563
  let c128_i32_566 : BitVec 32 := 128#32
  let v564 : BitVec 32 := Scalar.muli v560 c128_i32_566
  let v565 : Index := Scalar.indexCast v564
  let c0_568 : Index := 0#32
  ![0, v565.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_562 : BitVec 32 := 1#32
  let v559 : BitVec 32 := Scalar.addi v2 c1_i32_562
  let c8_i32_563 : BitVec 32 := 8#32
  let v560 : BitVec 32 := Scalar.remsi v559 c8_i32_563
  let c128_i32_569 : BitVec 32 := 128#32
  let v570 : BitVec 32 := Scalar.muli v560 c128_i32_569
  let v571 : Index := Scalar.indexCast v570
  let c0_570 : Index := 0#32
  ![v571.toNat, 0]
def k0_off7 (d0 : Dev nD) : Fin 3 → Nat :=
  let c0_583 : Index := 0#32
  let c1024_i32_582 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_575 : BitVec 32 := 8#32
  let v593 : BitVec 32 := Scalar.addi v2 c8_i32_575
  let c1_i32_576 : BitVec 32 := 1#32
  let v594 : BitVec 32 := Scalar.subi v593 c1_i32_576
  let c8_i32_577 : BitVec 32 := 8#32
  let v595 : BitVec 32 := Scalar.remsi v594 c8_i32_577
  let c128_i32_581 : BitVec 32 := 128#32
  let v599 : BitVec 32 := Scalar.muli v595 c128_i32_581
  let v600 : BitVec 32 := Scalar.addi c1024_i32_582 v599
  let v601 : Index := Scalar.indexCast v600
  let c0_584 : Index := 0#32
  ![0, v601.toNat, 0]
def k0_off8 (d0 : Dev nD) : Fin 2 → Nat :=
  let c1024_i32_586 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_575 : BitVec 32 := 8#32
  let v593 : BitVec 32 := Scalar.addi v2 c8_i32_575
  let c1_i32_576 : BitVec 32 := 1#32
  let v594 : BitVec 32 := Scalar.subi v593 c1_i32_576
  let c8_i32_577 : BitVec 32 := 8#32
  let v595 : BitVec 32 := Scalar.remsi v594 c8_i32_577
  let c128_i32_585 : BitVec 32 := 128#32
  let v606 : BitVec 32 := Scalar.muli v595 c128_i32_585
  let v607 : BitVec 32 := Scalar.addi c1024_i32_586 v606
  let v608 : Index := Scalar.indexCast v607
  let c0_587 : Index := 0#32
  ![v608.toNat, 0]
def k0_off9 (d0 : Dev nD) (c0_i32_595 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_594 : BitVec 32 := 1#32
  let v631 : BitVec 32 := Scalar.addi v2 c1_i32_594
  let v632 : BitVec 32 := Scalar.subi v631 c0_i32_595
  let c8_i32_596 : BitVec 32 := 8#32
  let v633 : BitVec 32 := Scalar.addi v632 c8_i32_596
  let c8_i32_597 : BitVec 32 := 8#32
  let v634 : BitVec 32 := Scalar.remsi v633 c8_i32_597
  let c128_i32_603 : BitVec 32 := 128#32
  let v640 : BitVec 32 := Scalar.muli v634 c128_i32_603
  let c0_i32_612 : BitVec 32 := 0#32
  ![v640.toNat, 0]
def k0_dev17 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_610 : BitVec 32 := 1#32
  let v645 : BitVec 32 := Scalar.muli v4 c1_i32_610
  let v646 : BitVec 32 := Scalar.addi c0_i32_611 v645
  v646.toNat
def k0_off10 (d0 : Dev nD) (c0_i32_600 : BitVec 32) : Fin 2 → Nat :=
  let c1024_i32_607 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_598 : BitVec 32 := 8#32
  let v635 : BitVec 32 := Scalar.addi v2 c8_i32_598
  let c1_i32_599 : BitVec 32 := 1#32
  let v636 : BitVec 32 := Scalar.subi v635 c1_i32_599
  let v637 : BitVec 32 := Scalar.addi v636 c0_i32_600
  let c8_i32_601 : BitVec 32 := 8#32
  let v638 : BitVec 32 := Scalar.remsi v637 c8_i32_601
  let c128_i32_606 : BitVec 32 := 128#32
  let v643 : BitVec 32 := Scalar.muli v638 c128_i32_606
  let v644 : BitVec 32 := Scalar.addi c1024_i32_607 v643
  let c0_i32_618 : BitVec 32 := 0#32
  ![v644.toNat, 0]
def k0_dev18 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_616 : BitVec 32 := 1#32
  let v653 : BitVec 32 := Scalar.muli v7 c1_i32_616
  let v654 : BitVec 32 := Scalar.addi c0_i32_617 v653
  v654.toNat
def k0_dev19 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_658 : BitVec 32 := 1#32
  let v695 : BitVec 32 := Scalar.muli v4 c1_i32_658
  let v696 : BitVec 32 := Scalar.addi c0_i32_659 v695
  v696.toNat
def k0_dev20 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_664 : BitVec 32 := 1#32
  let v703 : BitVec 32 := Scalar.muli v7 c1_i32_664
  let v704 : BitVec 32 := Scalar.addi c0_i32_665 v703
  v704.toNat
def k0_dev21 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_706 : BitVec 32 := 1#32
  let v745 : BitVec 32 := Scalar.muli v4 c1_i32_706
  let v746 : BitVec 32 := Scalar.addi c0_i32_707 v745
  v746.toNat
def k0_dev22 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_712 : BitVec 32 := 1#32
  let v753 : BitVec 32 := Scalar.muli v7 c1_i32_712
  let v754 : BitVec 32 := Scalar.addi c0_i32_713 v753
  v754.toNat
def k0_dev23 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_754 : BitVec 32 := 1#32
  let v795 : BitVec 32 := Scalar.muli v4 c1_i32_754
  let v796 : BitVec 32 := Scalar.addi c0_i32_755 v795
  v796.toNat
def k0_dev24 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_760 : BitVec 32 := 1#32
  let v803 : BitVec 32 := Scalar.muli v7 c1_i32_760
  let v804 : BitVec 32 := Scalar.addi c0_i32_761 v803
  v804.toNat
def k0_dev25 (d0 : Dev nD) : Nat :=
  let c0_i32_803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_802 : BitVec 32 := 1#32
  let v845 : BitVec 32 := Scalar.muli v4 c1_i32_802
  let v846 : BitVec 32 := Scalar.addi c0_i32_803 v845
  v846.toNat
def k0_dev26 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_808 : BitVec 32 := 1#32
  let v853 : BitVec 32 := Scalar.muli v7 c1_i32_808
  let v854 : BitVec 32 := Scalar.addi c0_i32_809 v853
  v854.toNat
def k0_dev27 (d0 : Dev nD) : Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_850 : BitVec 32 := 1#32
  let v895 : BitVec 32 := Scalar.muli v4 c1_i32_850
  let v896 : BitVec 32 := Scalar.addi c0_i32_851 v895
  v896.toNat
def k0_dev28 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_856 : BitVec 32 := 1#32
  let v903 : BitVec 32 := Scalar.muli v7 c1_i32_856
  let v904 : BitVec 32 := Scalar.addi c0_i32_857 v903
  v904.toNat
def k0_dev29 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_898 : BitVec 32 := 1#32
  let v945 : BitVec 32 := Scalar.muli v4 c1_i32_898
  let v946 : BitVec 32 := Scalar.addi c0_i32_899 v945
  v946.toNat
def k0_dev30 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_904 : BitVec 32 := 1#32
  let v953 : BitVec 32 := Scalar.muli v7 c1_i32_904
  let v954 : BitVec 32 := Scalar.addi c0_i32_905 v953
  v954.toNat
abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S2048x2048, .bf16⟩
  | .hbm, ⟨2, _⟩ => ⟨S2048, .bf16⟩
  | .hbm, ⟨3, _⟩ => ⟨S8x2048x2048, .f32⟩
  | .hbm, ⟨4, _⟩ => ⟨S2048x2048, .f32⟩
  | .hbm, ⟨5, _⟩ => ⟨S2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.KernelIdealSteps.lean ====
/-
# The kernel's body as a sequence of ring steps

The body printed for the kernel is a long straight line of loads, stores, remote copies and waits, cut into parts.
Here the same line is written as what it is: the handshake with the two neighbours, seven reduce-scatter steps, the
normalisation of the two chunks the device ends up owning, and seven all-gather steps. A step is one definition with
the step's number as a variable; `body_eq` says the printed body is this sequence, by unfolding.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.KernelIdealProof

open Cert.KernelIdeal Cert.KernelIdeal.Gen
open Idealize.ShloMosaic Idealize.SL.Sem
open Idealize.ShloMosaic.TcCoe

variable {F : FTy → Type} [FloatOps F]

/-! ## The slots of the four scratch buffers and the rows of the arrays -/

theorem inb2 (p : ℕ) (h : p < 2) : ∀ a, (![p, 0, 0] : Fin 3 → Nat) a + S1x128x2048.size a ≤ S2x128x2048.size a :=
  (by decide : ∀ p : Fin 2, ∀ a, (![p.val, 0, 0] : Fin 3 → Nat) a + S1x128x2048.size a ≤ S2x128x2048.size a) ⟨p, h⟩
theorem inb7 (s : ℕ) (h : s < 7) : ∀ a, (![s, 0, 0] : Fin 3 → Nat) a + S1x128x2048.size a ≤ S7x128x2048.size a :=
  (by decide : ∀ s : Fin 7, ∀ a, (![s.val, 0, 0] : Fin 3 → Nat) a + S1x128x2048.size a ≤ S7x128x2048.size a) ⟨s, h⟩
theorem inbS2 (p : ℕ) (h : p < 2) : ∀ a, (![p] : Fin 1 → Nat) a + S1.size a ≤ S2.size a :=
  (by decide : ∀ p : Fin 2, ∀ a, (![p.val] : Fin 1 → Nat) a + S1.size a ≤ S2.size a) ⟨p, h⟩
theorem inbS7 (s : ℕ) (h : s < 7) : ∀ a, (![s] : Fin 1 → Nat) a + S1.size a ≤ S7.size a :=
  (by decide : ∀ s : Fin 7, ∀ a, (![s.val] : Fin 1 → Nat) a + S1.size a ≤ S7.size a) ⟨s, h⟩

/-- Slot `p` of a two-slot buffer, slot `s` of a seven-slot one, as rectangles. -/
abbrev slot2 (p : ℕ) (h : p < 2) : Rect S2x128x2048 := Rect.unit (s := S2x128x2048) ![p, 0, 0] S1x128x2048.size (inb2 p h)
abbrev slot7 (s : ℕ) (h : s < 7) : Rect S7x128x2048 := Rect.unit (s := S7x128x2048) ![s, 0, 0] S1x128x2048.size (inb7 s h)

/-- The staging buffers of `x`, the residual, gamma and the result; the send and receive buffers of the two directions. -/
abbrev xM : Memref sig .tc .vmem S1x2048x2048 .bf16 := Memref.whole cc0_stg0_0
abbrev resM : Memref sig .tc .vmem S2048x2048 .bf16 := Memref.whole cc0_stg1_0
abbrev gamM : Memref sig .tc .vmem S2048 .bf16 := Memref.whole cc0_stg2_0
abbrev outM : Memref sig .tc .vmem S2048x2048 .bf16 := Memref.whole cc0_stg3_0
abbrev sndR : Memref sig .tc .vmem S2x128x2048 .bf16 := Memref.whole cc0_scratch0
abbrev rcvR : Memref sig .tc .vmem S7x128x2048 .bf16 := Memref.whole cc0_scratch1
abbrev sndL : Memref sig .tc .vmem S2x128x2048 .bf16 := Memref.whole cc0_scratch2
abbrev rcvL : Memref sig .tc .vmem S7x128x2048 .bf16 := Memref.whole cc0_scratch3

/-- A slot seen as the matrix a transfer moves. -/
abbrev mat2 (m : Memref sig .tc .vmem S2x128x2048 .bf16) (p : ℕ) (h : p < 2) : Memref sig .tc .vmem S128x2048 .bf16 :=
  (m.slice (slot2 p h) (fun _ => rfl)).squeeze S128x2048 squeezes_S1x128x2048_S128x2048
abbrev mat7 (m : Memref sig .tc .vmem S7x128x2048 .bf16) (s : ℕ) (h : s < 7) : Memref sig .tc .vmem S128x2048 .bf16 :=
  (m.slice (slot7 s h) (fun _ => rfl)).squeeze S128x2048 squeezes_S1x128x2048_S128x2048

/-- One semaphore of a two-element or of a seven-element array. -/
abbrev sem2 (a : DmaSems sig S2) (p : ℕ) (h : p < 2) : DmaSem sig :=
  ((a.slice (Rect.unit (s := S2) ![p] S1.size (inbS2 p h))).squeeze S_ squeezes_S1_S_).sem
abbrev sem7 (a : DmaSems sig S7) (s : ℕ) (h : s < 7) : DmaSem sig :=
  ((a.slice (Rect.unit (s := S7) ![s] S1.size (inbS7 s h))).squeeze S_ squeezes_S1_S_).sem

theorem words2 (p : ℕ) (h : p < 2) : (slot2 p h).WholeWords (EltTy.packing .bf16) :=
  (by decide : ∀ p : Fin 2, (slot2 p.val p.isLt).WholeWords (EltTy.packing .bf16)) ⟨p, h⟩
theorem words7 (s : ℕ) (h : s < 7) : (slot7 s h).WholeWords (EltTy.packing .bf16) :=
  (by decide : ∀ s : Fin 7, (slot7 s.val s.isLt).WholeWords (EltTy.packing .bf16)) ⟨s, h⟩
theorem packed2 (p : ℕ) (h : p < 2) : (slot2 p h).PackedRows (EltTy.packing .bf16) :=
  (by decide : ∀ p : Fin 2, (slot2 p.val p.isLt).PackedRows (EltTy.packing .bf16)) ⟨p, h⟩

theorem exact2 (m : Memref sig .tc .vmem S2x128x2048 .bf16) (hm : m.IsWhole) (p : ℕ) (h : p < 2) : (mat2 m p h).view.WordExact :=
  (hm.wordExact_slice rfl _ (words2 p h)).reshape _ _
theorem exact7 (m : Memref sig .tc .vmem S7x128x2048 .bf16) (hm : m.IsWhole) (s : ℕ) (h : s < 7) : (mat7 m s h).view.WordExact :=
  (hm.wordExact_slice rfl _ (words7 s h)).reshape _ _

/-- 128 rows of the result, at the offset a transfer computes. -/
abbrev rowsAt (off : Fin 2 → Nat) (h : ∀ a, off a + S128x2048.size a ≤ S2048x2048.size a) : Memref sig .tc .vmem S128x2048 .bf16 :=
  outM.slice (Rect.unit (s := S2048x2048) off S128x2048.size h) (fun _ => rfl)

/-! ## The steps -/

/-- One ring step's transfers: start the copy to the right and the copy to the left, then wait for each direction's own
    send and for what arrives. -/
def xfer (srcR dstR srcL dstL : Memref sig .tc .vmem S128x2048 .bf16)
    (hsR : srcR.view.WordExact) (hdR : dstR.view.WordExact) (hsL : srcL.view.WordExact) (hdL : dstL.view.WordExact)
    (hcR : dstR.view.ref.isScScratch = false) (hcL : dstL.view.ref.isScScratch = false)
    (sSR sRR sSL sRL : DmaSem sig) (nR nL : Dev nD) : Prog (TpuEff nD τ sig (Elt F) Λ₀ .tc) PUnit := do
  Prog.lift (.enqueueDma srcR (.remote (Dev.tc nR) dstR (.dma sSR) hcR) (.dma sRR) hsR hdR ⟨⟨rfl, Or.inl rfl⟩, trivial⟩)
  Prog.lift (.enqueueDma srcL (.remote (Dev.tc nL) dstL (.dma sSL) hcL) (.dma sRL) hsL hdL ⟨⟨rfl, Or.inl rfl⟩, trivial⟩)
  Prog.lift (.waitDma2 sSR dstR srcR hdR hsR)
  Prog.lift (.waitDma2 sRR srcR dstR hsR hdR)
  Prog.lift (.waitDma2 sSL dstL srcL hdL hsL)
  Prog.lift (.waitDma2 sRL srcL dstL hsL hdL)

/-- Reduce-scatter step `s`: the send slots of parity `s` into the neighbours' receive slots `s`. -/
def rsXfer (s : Fin 7) (nR nL : Dev nD) : Prog (TpuEff nD τ sig (Elt F) Λ₀ .tc) PUnit :=
  xfer (mat2 sndR (s.val % 2) (Nat.mod_lt _ (by decide))) (mat7 rcvR s.val s.isLt) (mat2 sndL (s.val % 2) (Nat.mod_lt _ (by decide))) (mat7 rcvL s.val s.isLt)
    (exact2 _ (Memref.isWhole_whole _) _ _) (exact7 _ (Memref.isWhole_whole _) _ _) (exact2 _ (Memref.isWhole_whole _) _ _) (exact7 _ (Memref.isWhole_whole _) _ _)
    rfl rfl
    (sem2 cc0_scratch4 (s.val % 2) (Nat.mod_lt _ (by decide))) (sem7 cc0_scratch5 s.val s.isLt) (sem2 cc0_scratch6 (s.val % 2) (Nat.mod_lt _ (by decide))) (sem7 cc0_scratch7 s.val s.isLt) nR nL

/-- All-gather step `s`: rows of the result into the same rows of the neighbours'. -/
def agXfer (c : Dev nD) (s : Fin 7) (nR nL : Dev nD) : Prog (TpuEff nD τ sig (Elt F) Λ₀ .tc) PUnit :=
  xfer (rowsAt (k0_off9 c (BitVec.ofNat 32 s.val)) (k0_off9_inb c s)) (rowsAt (k0_off9 c (BitVec.ofNat 32 s.val)) (k0_off9_inb c s))
    (rowsAt (k0_off10 c (BitVec.ofNat 32 s.val)) (k0_off10_inb c s)) (rowsAt (k0_off10 c (BitVec.ofNat 32 s.val)) (k0_off10_inb c s))
    ((Memref.isWhole_whole _).wordExact_slice rfl _ (k0_off9_wordsbf16 c s)) ((Memref.isWhole_whole _).wordExact_slice rfl _ (k0_off9_wordsbf16 c s))
    ((Memref.isWhole_whole _).wordExact_slice rfl _ (k0_off10_wordsbf16 c s)) ((Memref.isWhole_whole _).wordExact_slice rfl _ (k0_off10_wordsbf16 c s))
    rfl rfl
    (sem2 cc0_scratch8 (s.val % 2) (Nat.mod_lt _ (by decide))) (sem7 cc0_scratch9 s.val s.isLt)
    (sem2 cc0_scratch10 (s.val % 2) (Nat.mod_lt _ (by decide))) (sem7 cc0_scratch11 s.val s.isLt) nR nL

/-- A store of a chunk into a send slot, after the load of the slot the printed code makes first. -/
def putSlot (m : Memref sig .tc .vmem S2x128x2048 .bf16) (hm : m.IsWhole) (p : ℕ) (h : p < 2) (X : FVec F S1x128x2048 .bf16) :
    Prog (TpuEff nD τ sig (Elt F) Λ₀ .tc) PUnit := do
  let _v : Vec F S1x128x2048 .bf16 ← Prog.lift (.load m (slot2 p h).toLoadRect (View.loadsAt_vmem h_S1x128x2048))
  Prog.lift (.store m (slot2 p h) X Finset.univ (View.stores_vmem h_S1x128x2048 (hm.storeExact_slice rfl _ (packed2 p h)) (fun _ => rfl)) (.inl rfl))

/-- A chunk of 128 rows of `x`. -/
def getX (off : Fin 3 → Nat) (h : ∀ a, off a + S1x128x2048.size a ≤ S1x2048x2048.size a) :
    Prog (TpuEff nD τ sig (Elt F) Λ₀ .tc) (Vec F S1x128x2048 .bf16) :=
  Prog.lift (.load xM (Rect.unit (s := S1x2048x2048) off S1x128x2048.size h).toLoadRect (View.loadsAt_vmem h_S1x128x2048))

/-- Receive slot `s`. -/
def getSlot (m : Memref sig .tc .vmem S7x128x2048 .bf16) (s : ℕ) (h : s < 7) :
    Prog (TpuEff nD τ sig (Elt F) Λ₀ .tc) (Vec F S1x128x2048 .bf16) :=
  Prog.lift (.load m (slot7 s h).toLoadRect (View.loadsAt_vmem h_S1x128x2048))

/-- The handshake on the barrier semaphore: a signal to each neighbour, a wait for both. -/
def shake (nL nR : Dev nD) : Prog (TpuEff nD τ sig (Elt F) Λ₀ .tc) PUnit := do
  semSignalWord nL (SemArray.scalar (sig.barrier 0 rfl) : Sems sig S_).sem 1#32
  semSignalWord nR (SemArray.scalar (sig.barrier 0 rfl) : Sems sig S_).sem 1#32
  semWaitWord (SemArray.scalar (sig.barrier 0 rfl) : Sems sig S_).sem 2#32

/-- The first chunks: the device's own, of each half. -/
def rsInit (c : Dev nD) : Prog (TpuEff nD τ sig (Elt F) Λ₀ .tc) PUnit := do
  let a ← getX (k0_off1 c) (k0_off1_inb c)
  putSlot sndR (Memref.isWhole_whole _) 0 (by decide) (k0_pay1 a)
  let b ← getX (k0_off2 c) (k0_off2_inb c)
  putSlot sndL (Memref.isWhole_whole _) 0 (by decide) (k0_pay3 (k0_pay2 b))

/-- Between step `r` and step `r+1` of the reduce-scatter: what arrived plus the device's own chunk, into the next send slots. -/
def rsAdd (c : Dev nD) (r : Fin 6) : Prog (TpuEff nD τ sig (Elt F) Λ₀ .tc) PUnit := do
  let a ← getSlot rcvR r.val (Nat.lt_succ_of_lt r.isLt)
  let b ← getX (k0_off3 c (BitVec.ofNat 32 (1 + r.val))) (k0_off3_inb c r)
  let a' ← getSlot rcvL r.val (Nat.lt_succ_of_lt r.isLt)
  let b' ← getX (k0_off4 c (BitVec.ofNat 32 (1 + r.val))) (k0_off4_inb c r)
  putSlot sndR (Memref.isWhole_whole _) ((r.val + 1) % 2) (Nat.mod_lt _ (by decide)) (k0_pay4 a b)
  putSlot sndL (Memref.isWhole_whole _) ((r.val + 1) % 2) (Nat.mod_lt _ (by decide)) (k0_pay5 a' b')

/-- The result's rows at `off`, after the load of them the printed code makes first. -/
def putRows (off : Fin 2 → Nat) (h : ∀ a, off a + S128x2048.size a ≤ S2048x2048.size a)
    (hp : (Rect.unit (s := S2048x2048) off S128x2048.size h).PackedRows (EltTy.packing .bf16)) (X : FVec F S128x2048 .bf16) :
    Prog (TpuEff nD τ sig (Elt F) Λ₀ .tc) PUnit := do
  let _v : Vec F S128x2048 .bf16 ← Prog.lift (.load outM (Rect.unit (s := S2048x2048) off S128x2048.size h).toLoadRect (View.loadsAt_vmem h_S128x2048))
  Prog.lift (.store outM (Rect.unit (s := S2048x2048) off S128x2048.size h) X Finset.univ
    (View.stores_vmem h_S128x2048 ((Memref.isWhole_whole _).storeExact_slice rfl _ hp) (fun _ => rfl)) (.inl rfl))

def getRes (off : Fin 2 → Nat) (h : ∀ a, off a + S128x2048.size a ≤ S2048x2048.size a) :
    Prog (TpuEff nD τ sig (Elt F) Λ₀ .tc) (Vec F S128x2048 .bf16) :=
  Prog.lift (.load resM (Rect.unit (s := S2048x2048) off S128x2048.size h).toLoadRect (View.loadsAt_vmem h_S128x2048))

def getGam : Prog (TpuEff nD τ sig (Elt F) Λ₀ .tc) (Vec F S2048 .bf16) :=
  Prog.lift (.load gamM (Rect.unit (s := S2048) ![0] S2048.size inb_S2048_S2048_0).toLoadRect (View.loadsAt_vmem h_S2048))

/-- The two chunks the device owns: the sum completed, the residual added, normalised and scaled. -/
def norm (c : Dev nD) : Prog (TpuEff nD τ sig (Elt F) Λ₀ .tc) PUnit := do
  let g ← getGam
  let a ← getSlot rcvR 6 (by decide)
  let b ← getX (k0_off5 c) (k0_off5_inb c)
  let d ← getRes (k0_off6 c) (k0_off6_inb c)
  putRows (k0_off6 c) (k0_off6_inb c) (k0_off6_packedbf16 c) (k0_pay24 (k0_pay23 g) a b d)
  let a' ← getSlot rcvL 6 (by decide)
  let b' ← getX (k0_off7 c) (k0_off7_inb c)
  let d' ← getRes (k0_off8 c) (k0_off8_inb c)
  putRows (k0_off8 c) (k0_off8_inb c) (k0_off8_packedbf16 c) (k0_pay26 (k0_pay23 g) (k0_pay25 a') b' d')

/-- The whole body, after the device has read its index. -/
def steps (c : Dev nD) : Prog (TpuEff nD τ sig (Elt F) Λ₀ .tc) PUnit := do
  shake ⟨k0_dev1 c, k0_dev1_lt c⟩ ⟨k0_dev2 c, k0_dev2_lt c⟩
  rsInit c
  rsXfer 0 ⟨k0_dev3 c, k0_dev3_lt c⟩ ⟨k0_dev4 c, k0_dev4_lt c⟩
  rsAdd c 0
  rsXfer 1 ⟨k0_dev5 c, k0_dev5_lt c⟩ ⟨k0_dev6 c, k0_dev6_lt c⟩
  rsAdd c 1
  rsXfer 2 ⟨k0_dev7 c, k0_dev7_lt c⟩ ⟨k0_dev8 c, k0_dev8_lt c⟩
  rsAdd c 2
  rsXfer 3 ⟨k0_dev9 c, k0_dev9_lt c⟩ ⟨k0_dev10 c, k0_dev10_lt c⟩
  rsAdd c 3
  rsXfer 4 ⟨k0_dev11 c, k0_dev11_lt c⟩ ⟨k0_dev12 c, k0_dev12_lt c⟩
  rsAdd c 4
  rsXfer 5 ⟨k0_dev13 c, k0_dev13_lt c⟩ ⟨k0_dev14 c, k0_dev14_lt c⟩
  rsAdd c 5
  rsXfer 6 ⟨k0_dev15 c, k0_dev15_lt c⟩ ⟨k0_dev16 c, k0_dev16_lt c⟩
  norm c
  agXfer c 0 ⟨k0_dev17 c, k0_dev17_lt c⟩ ⟨k0_dev18 c, k0_dev18_lt c⟩
  agXfer c 1 ⟨k0_dev19 c, k0_dev19_lt c⟩ ⟨k0_dev20 c, k0_dev20_lt c⟩
  agXfer c 2 ⟨k0_dev21 c, k0_dev21_lt c⟩ ⟨k0_dev22 c, k0_dev22_lt c⟩
  agXfer c 3 ⟨k0_dev23 c, k0_dev23_lt c⟩ ⟨k0_dev24 c, k0_dev24_lt c⟩
  agXfer c 4 ⟨k0_dev25 c, k0_dev25_lt c⟩ ⟨k0_dev26 c, k0_dev26_lt c⟩
  agXfer c 5 ⟨k0_dev27 c, k0_dev27_lt c⟩ ⟨k0_dev28 c, k0_dev28_lt c⟩
  agXfer c 6 ⟨k0_dev29 c, k0_dev29_lt c⟩ ⟨k0_dev30 c, k0_dev30_lt c⟩

set_option maxRecDepth 65536 in
set_option maxHeartbeats 4000000 in
/-- The printed body is this sequence. -/
theorem body_eq : cc0__body_skel (F := F) xM (Memref.isWhole_whole _) resM (Memref.isWhole_whole _) gamM (Memref.isWhole_whole _) outM (Memref.isWhole_whole _)
    sndR (Memref.isWhole_whole _) rcvR (Memref.isWhole_whole _) sndL (Memref.isWhole_whole _) rcvL (Memref.isWhole_whole _)
    cc0_scratch4 cc0_scratch5 cc0_scratch6 cc0_scratch7 cc0_scratch8 cc0_scratch9 cc0_scratch10 cc0_scratch11
    = .op .deviceId steps := rfl

end Cert.KernelIdealProof

end
-- ==== Proof.KernelIdealRing.lean ====
/-
# The ring: neighbours, cells, contents, the schedule and the levels

The kernel moves data along four channels. Channel 0 is the reduce-scatter to the right, channel 1 the reduce-scatter to
the left, channels 2 and 3 the all-gather to the right and to the left. Each channel makes seven steps. A device has, per
channel, two send semaphores (used in turn) and seven receive semaphores, and one barrier semaphore.

This file says which rows or slots a step of a channel moves (`srcM`, `dstM`), what they hold (`sendV`), who pays which
semaphore with what (`ringRd`), what a device still owes before a step (`remT`), and that a wait is allowed then.
-/
module

public import proofs.«01_k».proof.Proof.KernelIdealSteps
public import Idealize.ShloMosaic.Lib.Pipeline.Launch
public import Idealize.ShloMosaic.Lib.Pipeline.Kit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- Beside the pipeline's own rounds, the ring's, whose duties are named by a truth value. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Neighbours -/

set_option backward.proofsInPublic true in
/-- The device to the right. -/
def nxt (c : Dev nD) : Dev nD := ⟨(c.val + 1) % 8, Nat.mod_lt _ (by decide)⟩
set_option backward.proofsInPublic true in
/-- The device to the left. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- Stepping right is a permutation of the devices, undone by stepping left. -/
def turn : Dev nD ≃ Dev nD := ⟨nxt, prv, prv_nxt, nxt_prv⟩

/-- Whom a channel sends to: the even channels to the right, the odd ones to the left. -/
def tgt (ch : Fin 4) (c : Dev nD) : Dev nD := if ch.val % 2 = 0 then nxt c else prv c
/-- Whom a channel receives from. -/
def org (ch : Fin 4) (c : Dev nD) : Dev nD := if ch.val % 2 = 0 then prv c else nxt c

theorem org_tgt (ch : Fin 4) (c : Dev nD) : org ch (tgt ch c) = c := by revert ch c; decide
theorem tgt_org (ch : Fin 4) (c : Dev nD) : tgt ch (org ch c) = c := by revert ch c; decide

/-- Sending along a channel is a permutation of the devices. -/
def along (ch : Fin 4) : Dev nD ≃ Dev nD := ⟨tgt ch, org ch, org_tgt ch, tgt_org ch⟩

/-! ## Semaphores -/

abbrev barS : Sem sig := (SemArray.scalar (sig.barrier 0 rfl) : Sems sig S_).sem

set_option backward.proofsInPublic true in
/-- The send semaphore of channel `ch` used at step `k`: the two take turns. -/
def sndS (ch : Fin 4) (k : ℕ) : DmaSem sig := ⟨4 + 9 * ch.val + k % 2, by show _ < 40; have := ch.isLt; omega⟩
set_option backward.proofsInPublic true in
/-- The receive semaphore of channel `ch` at step `s`. -/
def rcvS (ch : Fin 4) (s : Fin 7) : DmaSem sig := ⟨4 + 9 * ch.val + 2 + s.val, by show _ < 40; have := ch.isLt; have := s.isLt; omega⟩

abbrev barCell (c : Dev nD) : GSem nD τ sig := ((c : Thread nD τ), .reg barS)
abbrev sendCell (c : Dev nD) (ch : Fin 4) (k : ℕ) : GSem nD τ sig := ((c : Thread nD τ), .dma (sndS ch k))
abbrev recvCell (c : Dev nD) (ch : Fin 4) (s : Fin 7) : GSem nD τ sig := ((c : Thread nD τ), .dma (rcvS ch s))

theorem sndS_add_two (ch : Fin 4) (k : ℕ) : sndS ch (k + 2) = sndS ch k := by
  unfold sndS; exact Fin.ext (by show 4 + 9 * ch.val + (k + 2) % 2 = 4 + 9 * ch.val + k % 2; omega)

/-! ## Rows and slots -/

theorem inbRow (i : Fin 16) : ∀ a, (![128 * i.val, 0] : Fin 2 → Nat) a + S128x2048.size a ≤ S2048x2048.size a := by revert i; decide
theorem inbX (i : Fin 16) : ∀ a, (![0, 128 * i.val, 0] : Fin 3 → Nat) a + S1x128x2048.size a ≤ S1x2048x2048.size a := by revert i; decide

/-- The sixteen chunks of 128 rows of the result. -/
abbrev rowM (i : Fin 16) : Memref sig .tc .vmem S128x2048 .bf16 := rowsAt ![128 * i.val, 0] (inbRow i)

set_option backward.proofsInPublic true in
/-- Chunk `k` modulo 8 of the first half of the rows, -/
def lo (k : ℕ) : Fin 16 := ⟨k % 8, by omega⟩
set_option backward.proofsInPublic true in
/-- and of the second half. -/
def hi (k : ℕ) : Fin 16 := ⟨8 + k % 8, by omega⟩

/-- What channel `ch` sends from at step `s` on device `c`. -/
def srcM (ch : Fin 4) (s : Fin 7) (c : Dev nD) : Memref sig .tc .vmem S128x2048 .bf16 :=
  match ch with
  | 0 => mat2 sndR (s.val % 2) (Nat.mod_lt _ (by decide))
  | 1 => mat2 sndL (s.val % 2) (Nat.mod_lt _ (by decide))
  | 2 => rowM (lo (c.val + 9 - s.val))
  | 3 => rowM (hi (c.val + s.val + 7))

/-- What channel `ch` receives into at step `s` on device `c`. -/
def dstM (ch : Fin 4) (s : Fin 7) (c : Dev nD) : Memref sig .tc .vmem S128x2048 .bf16 :=
  match ch with
  | 0 => mat7 rcvR s.val s.isLt
  | 1 => mat7 rcvL s.val s.isLt
  | 2 => rowM (lo (c.val + 8 - s.val))
  | 3 => rowM (hi (c.val + s.val))

/-- The credit of one transfer: all move a matrix of the same size. -/
def N : ℕ := (rowM 0).view.dmaCredit
theorem N_pos : 0 < N := View.dmaCredit_pos _ (by decide)

theorem credit_src (ch : Fin 4) (s : Fin 7) (c : Dev nD) : (srcM ch s c).view.dmaCredit = N := by
  fin_cases ch <;> rfl
theorem credit_dst (ch : Fin 4) (s : Fin 7) (c : Dev nD) : (dstM ch s c).view.dmaCredit = N := by
  fin_cases ch <;> rfl

/-! ## Contents -/

/-- What a device's staging buffers hold: its arguments. -/
def xstg (c : Dev nD) : (cc0_stg0_0 : Ref sig .tc).ty.Contents (Elt F) :=
  (win0_0.blk (0 : Fin 1)).view.read (Elt F) (m ((c : Thread nD τ).loc main_arg0))
def resstg (c : Dev nD) : (cc0_stg1_0 : Ref sig .tc).ty.Contents (Elt F) :=
  (win0_1.blk (0 : Fin 1)).view.read (Elt F) (m ((c : Thread nD τ).loc main_arg1))
def gamstg (c : Dev nD) : (cc0_stg2_0 : Ref sig .tc).ty.Contents (Elt F) :=
  (win0_2.blk (0 : Fin 1)).view.read (Elt F) (m ((c : Thread nD τ).loc main_arg2))

/-- Chunk `i` of a device's `x`, and of its residual; its gamma. -/
def xRows (c : Dev nD) (i : Fin 16) : Vec F S1x128x2048 .bf16 :=
  (xM.access (Rect.unit (s := S1x2048x2048) ![0, 128 * i.val, 0] S1x128x2048.size (inbX i))).read (Elt F) (xstg m c)
def resRows (c : Dev nD) (i : Fin 16) : Vec F S128x2048 .bf16 :=
  (resM.access (Rect.unit (s := S2048x2048) ![128 * i.val, 0] S128x2048.size (inbRow i))).read (Elt F) (resstg m c)
def gamV (c : Dev nD) : Vec F S2048 .bf16 :=
  (gamM.access (Rect.unit (s := S2048) ![0] S2048.size inb_S2048_S2048_0)).read (Elt F) (gamstg m c)

/-- The partial sum device `c` sends to the right at step `s`: its own chunk at step 0, then what came from the left plus its own. -/
def accR : ℕ → Dev nD → FVec F S1x128x2048 .bf16
  | 0, c => k0_pay1 (xRows m c (lo c.val))
  | s + 1, c => k0_pay4 (accR s (prv c)) (xRows m c (lo (c.val + 7 - s)))
/-- The same to the left, of the second half of the rows. -/
def accL : ℕ → Dev nD → FVec F S1x128x2048 .bf16
  | 0, c => k0_pay3 (k0_pay2 (xRows m c (hi c.val)))
  | s + 1, c => k0_pay5 (accL s (nxt c)) (xRows m c (hi (c.val + s + 1)))

/-- The finished chunk of the first half that device `c` computes, -/
def ownLo (c : Dev nD) : FVec F S128x2048 .bf16 :=
  k0_pay24 (k0_pay23 (gamV m c)) (accR m 6 (prv c)) (xRows m c (lo (c.val + 1))) (resRows m c (lo (c.val + 1)))
/-- and of the second half. -/
def ownHi (c : Dev nD) : FVec F S128x2048 .bf16 :=
  k0_pay26 (k0_pay23 (gamV m c)) (k0_pay25 (accL m 6 (nxt c))) (xRows m c (hi (c.val + 7))) (resRows m c (hi (c.val + 7)))

set_option backward.proofsInPublic true in
/-- The finished chunk `i`: computed by the device left of `i` in the first half, right of it in the second. -/
def outV (i : Fin 16) : FVec F S128x2048 .bf16 :=
  if i.val < 8 then ownLo m ⟨(i.val + 7) % 8, Nat.mod_lt _ (by decide)⟩ else ownHi m ⟨(i.val + 1) % 8, Nat.mod_lt _ (by decide)⟩

theorem outV_lo (c : Dev nD) : outV m (lo (c.val + 1)) = ownLo m c := by
  unfold outV lo
  rw [if_pos (by show (c.val + 1) % 8 < 8; omega)]
  congr 1; exact Fin.ext (by have := c.isLt; show ((c.val + 1) % 8 + 7) % 8 = c.val; change c.val < 8 at this; omega)
theorem outV_hi (c : Dev nD) : outV m (hi (c.val + 7)) = ownHi m c := by
  unfold outV hi
  rw [if_neg (by show ¬ (8 + (c.val + 7) % 8 < 8); omega)]
  congr 1; exact Fin.ext (by have := c.isLt; show (8 + (c.val + 7) % 8 + 1) % 8 = c.val; change c.val < 8 at this; omega)

/-- A chunk with its leading axis of extent 1 dropped. -/
def sq (Y : FVec F S1x128x2048 .bf16) : FVec F S128x2048 .bf16 := fun j => Y (Shape.reshapeEquiv squeezes_S1x128x2048_S128x2048.numel_eq j)

/-- What channel `ch` moves at step `s` from device `c`. -/
def sendV (ch : Fin 4) (s : Fin 7) (c : Dev nD) : FVec F S128x2048 .bf16 :=
  match ch with
  | 0 => sq (accR m s.val c)
  | 1 => sq (accL m s.val c)
  | 2 => outV m (lo (c.val + 9 - s.val))
  | 3 => outV m (hi (c.val + s.val + 7))

/-! ## Payloads -/

/-- A memref owned on device `c` at contents `X`, and at some contents. -/
abbrev own (c : Dev nD) (M : Memref sig .tc .vmem S128x2048 .bf16) (X : FVec F S128x2048 .bf16) : sProp 𝕄 :=
  owns (Ix := Unit) (Name := ℕ) (U := UU) (Lvl := ℕ) (c : Thread nD τ) M fullShare X
abbrev some' (c : Dev nD) (M : Memref sig .tc .vmem S128x2048 .bf16) : sProp 𝕄 := iprop(∃ X, own (F := F) c M X)

/-- A send comes back with its source; -/
def sendPay (ch : Fin 4) (s : Fin 7) (c : Dev nD) : sProp 𝕄 := own c (srcM ch s c) (sendV m ch s c)
/-- an arrival brings the destination, holding what the sender sent; -/
def recvPay (ch : Fin 4) (s : Fin 7) (c : Dev nD) : sProp 𝕄 := own c (dstM ch s c) (sendV m ch s (org ch c))
/-- a neighbour's signal at the start brings its seven receive slots and its seven row chunks of one direction: -/
def landing (ch : Fin 4) (c : Dev nD) : sProp 𝕄 := bigSep Finset.univ fun s => some' (F := F) c (dstM ch s c)
/-- the right neighbour's (`true`) for the channels to the right, the left neighbour's for those to the left. -/
def barPay (c : Dev nD) (d : Bool) : sProp 𝕄 :=
  if d then iprop(landing (F := F) 0 (nxt c) ∗ landing (F := F) 2 (nxt c)) else iprop(landing (F := F) 1 (prv c) ∗ landing (F := F) 3 (prv c))

/-! ## The schedule -/

/-- How many rounds transfer semaphore `q` runs: the pipeline's own four none here, a send semaphore four or three, a
    receive semaphore one. -/
def rounds (q : ℕ) : ℕ := if q < 4 then 0 else if (q - 4) % 9 < 2 then 4 - (q - 4) % 9 else 1

set_option backward.proofsInPublic true in
/-- What round `r` of transfer semaphore `q` of device `c` brings. -/
def dmaPay (c : Dev nD) (q r : ℕ) : sProp 𝕄 :=
  if (q - 4) % 9 < 2 then sendPay m ⟨(q - 4) / 9 % 4, Nat.mod_lt _ (by decide)⟩ ⟨(2 * r + (q - 4) % 9) % 7, Nat.mod_lt _ (by decide)⟩ c
  else recvPay m ⟨(q - 4) / 9 % 4, Nat.mod_lt _ (by decide)⟩ ⟨((q - 4) % 9 - 2) % 7, Nat.mod_lt _ (by decide)⟩ c

def ringRd : Rounds.Schedule (GSem nD τ sig) Bool 𝕄 where
  duties g r := match g.2 with
    | .reg s => if r = 0 ∧ g.1.2 = .tc ∧ s = barS then Finset.univ else ∅
    | .dma q => if g.1.2 = .tc ∧ r < rounds q.val then {false} else ∅
  unitless _ := False
  amount g _ _ := match g.2 with
    | .reg _ => 1
    | .dma _ => N
  payload g r d := match g.2 with
    | .reg _ => barPay (F := F) g.1.1 d
    | .dma q => dmaPay m g.1.1 q.val r
  amount_pos g _ _ _ := by
    rcases g with ⟨_, _ | _⟩
    · exact Nat.one_pos
    · exact N_pos

instance ringRd_payload_storable (g : GSem nD τ sig) (r : ℕ) (d : Bool) :
    BI.Storable (upEmb : UEmb _ 𝕄) ((ringRd (F := F) m).payload g r d) := by
  rcases g with ⟨g, _ | q⟩
  · show BI.Storable upEmb (barPay (F := F) g.1 d)
    unfold barPay landing
    split <;> infer_instance
  · show BI.Storable upEmb (dmaPay m g.1 q.val r)
    unfold dmaPay sendPay recvPay
    split <;> infer_instance

theorem duties_bar (c : Dev nD) : (ringRd (F := F) m).duties (barCell c) 0 = Finset.univ := by
  show (if 0 = 0 ∧ ((c : Thread nD τ)).2 = .tc ∧ barS = barS then (Finset.univ : Finset Bool) else ∅) = Finset.univ
  exact if_pos ⟨rfl, rfl, rfl⟩

theorem rounds_send (ch : Fin 4) (k : ℕ) : rounds (sndS ch k).val = 4 - k % 2 := by
  have := ch.isLt
  show rounds (4 + 9 * ch.val + k % 2) = _
  unfold rounds
  rw [if_neg (by omega), if_pos (by omega)]
  omega
theorem rounds_recv (ch : Fin 4) (s : Fin 7) : rounds (rcvS ch s).val = 1 := by
  have := ch.isLt; have := s.isLt
  show rounds (4 + 9 * ch.val + 2 + s.val) = _
  unfold rounds
  rw [if_neg (by omega), if_neg (by omega)]

theorem duties_send (c : Dev nD) (ch : Fin 4) (s : Fin 7) : (ringRd (F := F) m).duties (sendCell c ch s.val) (s.val / 2) = {false} := by
  refine if_pos ⟨rfl, ?_⟩
  rw [rounds_send]; have := s.isLt; omega
theorem duties_recv (c : Dev nD) (ch : Fin 4) (s : Fin 7) : (ringRd (F := F) m).duties (recvCell c ch s) 0 = {false} := by
  refine if_pos ⟨rfl, ?_⟩
  rw [rounds_recv]; exact Nat.one_pos

theorem duties_bar_later (c : Dev nD) : ∀ r, 1 ≤ r → (ringRd (F := F) m).duties (barCell c) r = ∅ :=
  fun r hr => if_neg fun h => by omega
theorem duties_recv_later (c : Dev nD) (ch : Fin 4) (s : Fin 7) : ∀ r, 1 ≤ r → (ringRd (F := F) m).duties (recvCell c ch s) r = ∅ :=
  fun r hr => if_neg fun h => by have := h.2; rw [rounds_recv] at this; omega
theorem duties_send_later (c : Dev nD) (ch : Fin 4) (k : ℕ) (hk : 7 ≤ k) : ∀ r, k / 2 ≤ r → (ringRd (F := F) m).duties (sendCell c ch k) r = ∅ :=
  fun r hr => if_neg fun h => by have := h.2; rw [rounds_send] at this; omega

theorem amount_bar (c : Dev nD) (d : Bool) : (ringRd (F := F) m).amount (barCell c) 0 d = 1 := rfl
theorem amount_dma (c : Dev nD) (q : DmaSem sig) (r : ℕ) (d : Bool) : (ringRd (F := F) m).amount ((c : Thread nD τ), .dma q) r d = N := rfl

theorem expect_bar (c : Dev nD) : (ringRd (F := F) m).expect (barCell c) 0 = 2 := by
  unfold Schedule.expect Schedule.amountOf
  rw [duties_bar]
  rfl
theorem expect_send (c : Dev nD) (ch : Fin 4) (s : Fin 7) : (ringRd (F := F) m).expect (sendCell c ch s.val) (s.val / 2) = N := by
  unfold Schedule.expect Schedule.amountOf; rw [duties_send, Finset.sum_singleton]; rfl
theorem expect_recv (c : Dev nD) (ch : Fin 4) (s : Fin 7) : (ringRd (F := F) m).expect (recvCell c ch s) 0 = N := by
  unfold Schedule.expect Schedule.amountOf; rw [duties_recv, Finset.sum_singleton]; rfl

theorem payload_send (c : Dev nD) (ch : Fin 4) (s : Fin 7) (d : Bool) :
    (ringRd (F := F) m).payload (sendCell c ch s.val) (s.val / 2) d = sendPay m ch s c := by
  have h1 := ch.isLt; have h2 := s.isLt
  show dmaPay m c (4 + 9 * ch.val + s.val % 2) (s.val / 2) = _
  unfold dmaPay
  rw [if_pos (by omega)]
  congr 1 <;> exact Fin.ext (by simp only []; omega)
theorem payload_recv (c : Dev nD) (ch : Fin 4) (s : Fin 7) (d : Bool) :
    (ringRd (F := F) m).payload (recvCell c ch s) 0 d = recvPay m ch s c := by
  have h1 := ch.isLt; have h2 := s.isLt
  show dmaPay m c (4 + 9 * ch.val + 2 + s.val) 0 = _
  unfold dmaPay
  rw [if_neg (by omega)]
  congr 1 <;> exact Fin.ext (by simp only []; omega)

/-- What a wait on each kind of semaphore brings. -/
theorem rest_bar (c : Dev nD) :
    bigSep ((ringRd (F := F) m).duties (barCell c) 0 \ ∅) (fun d => (ringRd (F := F) m).payload (barCell c) 0 d)
      = iprop(barPay (F := F) c true ∗ barPay (F := F) c false) := by
  rw [Finset.sdiff_empty, duties_bar, bigSep_univ_eq_bigSepL [true, false] (by decide) (by decide), bigSepL_cons_cons, bigSepL_singleton]
  rfl
theorem rest_send (c : Dev nD) (ch : Fin 4) (s : Fin 7) :
    bigSep ((ringRd (F := F) m).duties (sendCell c ch s.val) (s.val / 2) \ ∅) (fun d => (ringRd (F := F) m).payload (sendCell c ch s.val) (s.val / 2) d)
      = sendPay m ch s c := by
  rw [Finset.sdiff_empty, duties_send, bigSep_singleton, payload_send]
theorem rest_recv (c : Dev nD) (ch : Fin 4) (s : Fin 7) :
    bigSep ((ringRd (F := F) m).duties (recvCell c ch s) 0 \ ∅) (fun d => (ringRd (F := F) m).payload (recvCell c ch s) 0 d)
      = recvPay m ch s c := by
  rw [Finset.sdiff_empty, duties_recv, bigSep_singleton, payload_recv]

/-! ## What is owed, and the levels -/

set_option backward.proofsInPublic true in
/-- The channel of direction `d` in step `t` of the fourteen: the reduce-scatter's first, then the all-gather's. -/
def chan (d : Fin 2) (t : ℕ) : Fin 4 := ⟨2 * (t / 7 % 2) + d.val, by have := d.isLt; omega⟩
set_option backward.proofsInPublic true in
/-- The step's number within its phase. -/
def stp (t : ℕ) : Fin 7 := ⟨t % 7, Nat.mod_lt _ (by decide)⟩

/-- What device `c` owes for step `t` in direction `d`: the arrival's credit at its target. -/
abbrev due (c : Dev nD) (d : Fin 2) (t : ℕ) : CellTallies nD τ sig Unit :=
  tallyAt (recvCell (tgt (chan d t) c) (chan d t) (stp t)) () N

/-- What it owes for the last `k` of the fourteen steps, -/
def remK (c : Dev nD) : ℕ → CellTallies nD τ sig Unit
  | 0 => 0
  | k + 1 => remK c k + due c 1 (13 - k) + due c 0 (13 - k)
/-- and for step `t` and those after it. -/
def remT (c : Dev nD) (t : ℕ) : CellTallies nD τ sig Unit := remK c (14 - t)

theorem remT_step (c : Dev nD) (t : ℕ) (h : t < 14) : remT c t = remT c (t + 1) + due c 1 t + due c 0 t := by
  unfold remT
  rw [show 14 - t = (14 - (t + 1)) + 1 by omega]
  show remK c (14 - (t + 1)) + due c 1 (13 - (14 - (t + 1))) + due c 0 (13 - (14 - (t + 1))) = _
  rw [show 13 - (14 - (t + 1)) = t by omega]

theorem remT_end (c : Dev nD) : remT c 14 = 0 := rfl

/-- At launch: all fourteen steps and a unit to each neighbour's barrier, the left one's paid first. -/
def O₀ (c : Dev nD) : CellTallies nD τ sig Unit := remT c 0 + tallyAt (barCell (nxt c)) () 1 + tallyAt (barCell (prv c)) () 1

def L (g : GSem nD τ sig) : Finset Unit := if g.1.2 = .tc then {()} else ∅

/-- The level of transfer semaphore `q`: a receive semaphore's is 2 plus the number of its step among the fourteen. -/
def lvQ (q : ℕ) : ℕ := if q < 4 then 0 else if (q - 4) % 9 < 2 then 0 else 2 + 7 * ((q - 4) / 18) + ((q - 4) % 9 - 2)
/-- The barrier is at level 1, sends and the pipeline's own transfers at 0. -/
def lv (g : GSem nD τ sig) (_ : Unit) : ℕ := match g.2 with
  | .reg _ => 1
  | .dma q => lvQ q.val

theorem L_tc (c : Dev nD) (sm : SemLoc sig) : L ((c : Thread nD τ), sm) = {()} := if_pos rfl
theorem L_of_ne (g : GSem nD τ sig) (h : g.1.2 ≠ .tc) : L g = ∅ := if_neg h

theorem lv_recv (c' : Dev nD) (d : Fin 2) (t : ℕ) (h : t < 14) : lv (recvCell c' (chan d t) (stp t)) () = 2 + t := by
  have hd := d.isLt
  show lvQ (4 + 9 * (2 * (t / 7 % 2) + d.val) + 2 + t % 7) = _
  unfold lvQ
  rw [if_neg (by omega), if_neg (by omega)]
  rcases (by omega : t / 7 = 0 ∨ t / 7 = 1) with h7 | h7 <;> rcases (by omega : d.val = 0 ∨ d.val = 1) with h8 | h8 <;> rw [h7, h8] <;> omega
theorem lv_send (c' : Dev nD) (ch : Fin 4) (k : ℕ) : lv (sendCell c' ch k) () = 0 := by
  have hd := ch.isLt
  show lvQ (4 + 9 * ch.val + k % 2) = _
  unfold lvQ
  rw [if_neg (by omega), if_pos (by omega)]

theorem due_pos {c : Dev nD} {d : Fin 2} {t : ℕ} {g : GSem nD τ sig} {u : Unit} (h : 0 < due c d t g u) :
    g = recvCell (tgt (chan d t) c) (chan d t) (stp t) := by
  rw [tallyAt_apply] at h
  by_contra hn
  rw [if_neg fun h' => hn h'.1] at h
  exact Nat.lt_irrefl 0 h

/-- Whatever is owed for the steps from `t` on sits on a TensorCore's semaphore at a level above `1 + t`. -/
theorem remK_pos {c : Dev nD} {g : GSem nD τ sig} {u : Unit} : ∀ k, k ≤ 14 → 0 < remK c k g u → g.1.2 = .tc ∧ 1 + (14 - k) < lv g u := by
  intro k
  induction k with
  | zero => intro _ h; exact absurd h (Nat.lt_irrefl 0)
  | succ k ih =>
    intro hk h
    have h' : 0 < remK c k g u + due c 1 (13 - k) g u + due c 0 (13 - k) g u := h
    rcases Nat.eq_zero_or_pos (due c 0 (13 - k) g u) with h0 | h0
    · rcases Nat.eq_zero_or_pos (due c 1 (13 - k) g u) with h1 | h1
      · have := ih (by omega) (by omega); exact ⟨this.1, by omega⟩
      · have e := due_pos h1; subst e
        refine ⟨rfl, ?_⟩
        rw [show u = () from rfl, lv_recv _ _ _ (by omega)]; omega
    · have e := due_pos h0; subst e
      refine ⟨rfl, ?_⟩
      rw [show u = () from rfl, lv_recv _ _ _ (by omega)]; omega

theorem remT_pos {c : Dev nD} {g : GSem nD τ sig} {u : Unit} {t : ℕ} (ht : t ≤ 14) (h : 0 < remT c t g u) : g.1.2 = .tc ∧ 1 + t < lv g u := by
  have := remK_pos (14 - t) (by omega) h
  exact ⟨this.1, by omega⟩

/-- A wait on a semaphore of level at most `1 + t` is allowed while the steps from `t` on are owed. -/
theorem mayWait_rem (c : Dev nD) (sm : SemLoc sig) (t : ℕ) (ht : t ≤ 14) (h : lv ((c : Thread nD τ), sm) () ≤ 1 + t) :
    (levAts L lv : sProp 𝕄) ⊢ MayWait (c : Thread nD τ) sm () (remT c t) :=
  MayOwe.of_cut (L := L) (lev := lv) (1 + t) (fun p hp => by rw [Finset.mem_singleton.mp hp, L_tc]; exact Finset.mem_singleton_self _)
    (fun g u hg => by unfold L; rw [if_pos (remT_pos ht hg).1]; exact Finset.mem_singleton_self _)
    (fun p hp => by rw [Finset.mem_singleton.mp hp]; exact h)
    (fun g u hg => (remT_pos ht hg).2)

theorem lv_bar (c : Dev nD) (u : Unit) : lv (barCell c) u = 1 := rfl

theorem O₀_pos {c : Dev nD} {g : GSem nD τ sig} {u : Unit} (h : 0 < O₀ c g u) : g.1.2 = .tc ∧ 0 < lv g u := by
  unfold O₀ at h
  rw [Pi.add_apply, Finsupp.add_apply, Pi.add_apply, Finsupp.add_apply, tallyAt_apply, tallyAt_apply] at h
  by_cases h1 : g = barCell (nxt c)
  · rw [h1, lv_bar]; exact ⟨rfl, Nat.one_pos⟩
  by_cases h2 : g = barCell (prv c)
  · rw [h2, lv_bar]; exact ⟨rfl, Nat.one_pos⟩
  rw [if_neg (fun h => h1 h.1), if_neg (fun h => h2 h.1)] at h
  have := remT_pos (t := 0) (Nat.zero_le _) (by simpa only [add_zero] using h)
  exact ⟨this.1, Nat.lt_of_le_of_lt (Nat.zero_le _) this.2⟩

/-- A wait on one of the pipeline's own transfers is allowed at any time of the launch. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; exact le_of_eq (if_pos hq))
      (fun g u hg => (O₀_pos hg).2)
  · rw [MayWait_zero]; iintro -; iempintro

/-! ## The invariants, as the body has them -/

set_option backward.proofsInPublic true in
/-- A device's 37 semaphores of the ring in one row: 36 for transfers, then the barrier's. -/
def csem (k : Fin 37) : SemLoc sig := if h : k.val < 36 then .dma (⟨4 + k.val, by show _ < 40; omega⟩ : DmaSem sig) else .reg barS
abbrev kcell (ck : Dev nD × Fin 37) : GSem nD τ sig := ((ck.1 : Thread nD τ), csem ck.2)

set_option backward.proofsInPublic true in
def iS (ch : Fin 4) (k : ℕ) : Fin 37 := ⟨9 * ch.val + k % 2, by have := ch.isLt; omega⟩
set_option backward.proofsInPublic true in
def iR (ch : Fin 4) (s : Fin 7) : Fin 37 := ⟨9 * ch.val + 2 + s.val, by have := ch.isLt; have := s.isLt; omega⟩

theorem kcell_send (c : Dev nD) (ch : Fin 4) (k : ℕ) : kcell (c, iS ch k) = sendCell c ch k := by
  have := ch.isLt
  unfold kcell sendCell csem iS sndS
  rw [dif_pos (by show 9 * ch.val + k % 2 < 36; omega)]
  congr 3; show 4 + (9 * ch.val + k % 2) = _; omega
theorem kcell_recv (c : Dev nD) (ch : Fin 4) (s : Fin 7) : kcell (c, iR ch s) = recvCell c ch s := by
  have := ch.isLt; have := s.isLt
  unfold kcell recvCell csem iR rcvS
  rw [dif_pos (by show 9 * ch.val + 2 + s.val < 36; omega)]
  congr 3; show 4 + (9 * ch.val + 2 + s.val) = _; omega
theorem kcell_bar (c : Dev nD) : kcell (c, 36) = barCell c := rfl

/-- All devices' invariants, under the names the launch gave them, that every semaphore has reached round 0, and the levels. -/
def records (K : Dev nD × Fin 37 → ℕ) : sProp 𝕄 :=
  iprop((bigSep Finset.univ fun ck => cellInv ER (ringRd m) (K ck) (kcell ck)) ∗ (bigSep Finset.univ fun ck => reached ER (kcell ck) 0) ∗ levAts L lv)

instance records_persistent (K : Dev nD × Fin 37 → ℕ) : BI.Persistent (records m K) := by unfold records; infer_instance

theorem inv_at (K : Dev nD × Fin 37 → ℕ) (ck : Dev nD × Fin 37) : records m K ⊢ cellInv ER (ringRd m) (K ck) (kcell ck) := by
  unfold records
  exact sep_elim_left.trans (bigSep_elim (Finset.mem_univ ck))
theorem reached_at (K : Dev nD × Fin 37 → ℕ) (ck : Dev nD × Fin 37) : records m K ⊢ reached ER (kcell ck) 0 := by
  unfold records
  exact sep_elim_right.trans (sep_elim_left.trans (bigSep_elim (Finset.mem_univ ck)))
theorem inv_send (K : Dev nD × Fin 37 → ℕ) (c : Dev nD) (ch : Fin 4) (k : ℕ) :
    records m K ⊢ cellInv ER (ringRd m) (K (c, iS ch k)) (sendCell c ch k) := by
  have := inv_at m K (c, iS ch k); rwa [kcell_send] at this
theorem inv_recv (K : Dev nD × Fin 37 → ℕ) (c : Dev nD) (ch : Fin 4) (s : Fin 7) :
    records m K ⊢ cellInv ER (ringRd m) (K (c, iR ch s)) (recvCell c ch s) := by
  have := inv_at m K (c, iR ch s); rwa [kcell_recv] at this
theorem reached_recv (K : Dev nD × Fin 37 → ℕ) (c : Dev nD) (ch : Fin 4) (s : Fin 7) :
    records m K ⊢ reached ER (recvCell c ch s) 0 := by
  have := reached_at m K (c, iR ch s); rwa [kcell_recv] at this
theorem levs (K : Dev nD × Fin 37 → ℕ) : records m K ⊢ levAts L lv := by
  unfold records
  iintro ⟨-, -, H⟩
  iexact H

end Cert.KernelIdealProof

end
-- ==== Proof.KernelIdealXfer.lean ====
/-
# One ring step's transfers

A transfer started, its send waited for, an arrival waited for — each once, for every channel and every step — and the
six of them in the order the kernel issues them, for both directions at once (`wp_xfer`).
-/
module

public import proofs.«01_k».proof.Proof.KernelIdealRing

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 37 → ℕ)

/-- The weakest precondition the body is proved in. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for so far. -/
def owed (c : Dev nD) (O : CellTallies nD τ sig Unit) : sProp 𝕄 := iprop(∃ W, owes (c : Thread nD τ) O W)

/-- What device `c` holds for step `s` of channel `ch` from the launch on: its place on the receive semaphore and the
    credit to wait there, and the tokens of the two duties its transfer pays. -/
def ticket (ch : Fin 4) (s : Fin 7) (c : Dev nD) : sProp 𝕄 :=
  iprop(atPos ER (recvCell c ch s) 0 ∅ 0 ∗ cred (tallyAt (recvCell c ch s) () N)
    ∗ dutyTok ER (recvCell (tgt ch c) ch s) 0 false ∗ dutyTok ER (sendCell c ch s.val) (s.val / 2) false)

/-- What it holds after it: the receive semaphore closed at zero and what arrived. -/
def arrived (ch : Fin 4) (s : Fin 7) (c : Dev nD) : sProp 𝕄 :=
  iprop(semVal (recvCell c ch s) 0 ∗ recvPay m ch s c)

/-- The place on the send semaphore of channel `ch` that step `k` uses, just before it. -/
def sendAt (ch : Fin 4) (k : ℕ) (c : Dev nD) : sProp 𝕄 :=
  iprop(atPos ER (sendCell c ch k) (k / 2) ∅ 0 ∗ reached ER (sendCell c ch k) (k / 2))

/-- A transfer of channel `ch` at step `s` starts: the source and the target's destination go, and what it owed there. -/
theorem wp_start (c n : Dev nD) (ch : Fin 4) (s : Fin 7) (O : CellTallies nD τ sig Unit)
    {src dst : Memref sig .tc .vmem S128x2048 .bf16} {sS sR : DmaSem sig}
    (h1 : src = srcM ch s c) (h2 : dst = dstM ch s (tgt ch c)) (h3 : sS = sndS ch s.val) (h4 : sR = rcvS ch s) (h5 : n = tgt ch c)
    {hsc : (dst : Memref sig (Dev.tc n : Thread nD τ).2.kind .vmem S128x2048 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records m K ∗ own c src (sendV m ch s c) ∗ some' (F := F) (tgt ch c) dst
        ∗ owed c (O + tallyAt (recvCell (tgt ch c) ch s) () N)
        ∗ dutyTok ER (recvCell (tgt ch c) ch s) 0 false ∗ dutyTok ER (sendCell c ch s.val) (s.val / 2) false
        ∗ reached ER (sendCell c ch s.val) (s.val / 2))
      ⊢ iprop(((cred (tallyAt (sendCell c ch s.val) () N) ∗ owed c O) -∗ wpB c (k ⟨⟩) Q)
          -∗ wpB c (.op (.enqueueDma src (.remote (Dev.tc n : Thread nD τ) dst (.dma sS) hsc) (.dma sR) hsrc hdst hsem) k) Q) := by
  subst h3 h4 h5
  unfold some' own owns owed
  iintro ⟨#HR, ⟨%fs, %hfs, Hs⟩, ⟨%X, %fd, %hfd, Hd⟩, ⟨%W, HO⟩, Ht2, Ht1, Hr1⟩ Hk
  ihave #HI1 := (inv_send m K c ch s.val) $$ HR
  ihave #HI2 := (inv_recv m K (tgt ch c) ch s) $$ HR
  ihave #Hr2 := (reached_recv m K (tgt ch c) ch s) $$ HR
  iapply (Rounds.wp_send_pointsTo 𝒱₀ ER (ringRd m) (c : Thread nD τ) none (κ₁ := K (c, iS ch s.val)) (κ₂ := K (tgt ch c, iR ch s))
    (r₁ := s.val / 2) (r₂ := 0) (d₁ := false) (d₂ := false) (fs := fs) (fd := fd)
    (by rw [duties_send]; exact Finset.mem_singleton_self _) (by rw [duties_recv]; exact Finset.mem_singleton_self _)
    () () N (by rw [h2]; exact credit_dst ch s _) (amount_dma m c _ _ false) (amount_dma m (tgt ch c) _ _ false) O rfl (W := W)
    (by
      rw [payload_send]; unfold sendPay own owns; rw [← h1]
      iintro H; iexists fs; isplitr
      · ipureintro; exact hfs
      · iexact H)
    (by
      rw [payload_recv]; unfold recvPay own owns; rw [← h2, org_tgt]
      iintro H; iexists _; isplitr [H]
      rotate_left
      · iexact H
      · ipureintro; rw [View.read_write_univ]; exact hfs)) $$ [Hs Hd HO Ht1 Hr1 Ht2]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The wait for a transfer's own send: the source back, and on to the semaphore's next round. -/
theorem wp_waitSend (c : Dev nD) (ch : Fin 4) (s : Fin 7) (t : ℕ) (ht : t ≤ 14)
    {src dst : Memref sig .tc .vmem S128x2048 .bf16} {sS : DmaSem sig} (h1 : src = srcM ch s c) (h3 : sS = sndS ch s.val)
    {hd : dst.view.WordExact} {hs : src.view.WordExact}
    {α : Type} {Q : α → sProp 𝕄} {k : PUnit → Prog (TpuEff nD τ sig (Elt F) Λ₀ .tc) α} :
    iprop(records m K ∗ cred (tallyAt (sendCell c ch s.val) () N) ∗ owed c (remT c t) ∗ atPos ER (sendCell c ch s.val) (s.val / 2) ∅ 0)
      ⊢ iprop(((owed c (remT c t) ∗ sendAt (F := F) ch (s.val + 2) c ∗ own c src (sendV m ch s c)) -∗ wpB c (k ⟨⟩) Q)
          -∗ wpB c (.op (.waitDma2 sS dst src hd hs) k) Q) := by
  subst h3
  unfold owed
  iintro ⟨#HR, Hc, ⟨%W, HO⟩, Ha⟩ Hk
  ihave #HI := (inv_send m K c ch s.val) $$ HR
  ihave #Hl := (levs m K) $$ HR
  iapply (Rounds.wp_wait_rest_token 𝒱₀ ER (ringRd m) (c : Thread nD τ) none (κ := K (c, iS ch s.val))
      (wpE_waitDma2_eq 𝒱₀ (c : Thread nD τ) none Set.univ) (Set.mem_univ _) () (O := remT c t) (W := W) (R := s.val / 2) (m := 0) (T := ∅)
      (by rw [Nat.zero_add, expect_send, h1, credit_src])) $$ [Hc HO Ha]
  · isplitr; · iexact HI
    isplitl [Hc]; · rw [h1, credit_src]; iexact Hc
    isplitl [HO]; · iexact HO
    isplitr; · iapply (mayWait_rem c (.dma (sndS ch s.val)) t ht (by rw [lv_send]; exact Nat.zero_le _)); iexact Hl
    iexact Ha
  iintro ⟨HO, Ha, Hr, Hp⟩
  ihave Hp := (Entails.of_eq (rest_send m c ch s)) $$ Hp
  iapply Hk
  isplitl [HO]; · iexists _; iexact HO
  isplitl [Ha Hr]
  · unfold sendAt sendCell
    rw [sndS_add_two, show (s.val + 2) / 2 = s.val / 2 + 1 by omega]
    isplitl [Ha]; · iexact Ha
    iexact Hr
  rw [h1]; unfold sendPay; iexact Hp

/-- The wait for an arrival: the destination, holding what the sender sent, and the semaphore closed. -/
theorem wp_waitRecv (c : Dev nD) (ch : Fin 4) (s : Fin 7) (t : ℕ) (ht : t ≤ 14) (hl : lv (recvCell c ch s) () ≤ 1 + t)
    {src dst : Memref sig .tc .vmem S128x2048 .bf16} {sR : DmaSem sig} (h2 : dst = dstM ch s (tgt ch c)) (h4 : sR = rcvS ch s)
    {hs : src.view.WordExact} {hd : dst.view.WordExact}
    {α : Type} {Q : α → sProp 𝕄} {k : PUnit → Prog (TpuEff nD τ sig (Elt F) Λ₀ .tc) α} :
    iprop(records m K ∗ cred (tallyAt (recvCell c ch s) () N) ∗ owed c (remT c t) ∗ atPos ER (recvCell c ch s) 0 ∅ 0)
      ⊢ iprop(((owed c (remT c t) ∗ arrived m ch s c) -∗ wpB c (k ⟨⟩) Q)
          -∗ wpB c (.op (.waitDma2 sR src dst hs hd) k) Q) := by
  subst h4
  unfold owed
  iintro ⟨#HR, Hc, ⟨%W, HO⟩, Ha⟩ Hk
  ihave #HI := (inv_recv m K c ch s) $$ HR
  ihave #Hl := (levs m K) $$ HR
  iapply (Rounds.wp_wait_rest_token 𝒱₀ ER (ringRd m) (c : Thread nD τ) none (κ := K (c, iR ch s))
      (wpE_waitDma2_eq 𝒱₀ (c : Thread nD τ) none Set.univ) (Set.mem_univ _) () (O := remT c t) (W := W) (R := 0) (m := 0) (T := ∅)
      (by rw [Nat.zero_add, expect_recv, h2, credit_dst])) $$ [Hc HO Ha]
  · isplitr; · iexact HI
    isplitl [Hc]; · rw [h2, credit_dst]; iexact Hc
    isplitl [HO]; · iexact HO
    isplitr; · iapply (mayWait_rem c (.dma (rcvS ch s)) t ht hl); iexact Hl
    iexact Ha
  iintro ⟨HO, Ha, -, Hp⟩
  ihave Hp := (Entails.of_eq (rest_recv m c ch s)) $$ Hp
  imod (Rounds.cell_close ER (ringRd m) (Set.mem_univ (K (c, iR ch s))) (fun h => h) (R := 0 + 1) (duties_recv_later m c ch s)) $$ [Ha] with Hz
  · isplitr; · iexact HI
    iexact Ha
  iapply Hk
  isplitl [HO]; · iexists _; iexact HO
  unfold arrived
  isplitl [Hz]; · iexact Hz
  iexact Hp

/-- What one channel needs for its step: the source holding what is to be sent, the target's destination, the ticket, its
    place on the send semaphore. -/
def ready (ch : Fin 4) (s : Fin 7) (c : Dev nD) : sProp 𝕄 :=
  iprop(own c (srcM ch s c) (sendV m ch s c) ∗ some' (F := F) (tgt ch c) (dstM ch s (tgt ch c)) ∗ ticket ch s c ∗ sendAt ch s.val c)
/-- And has after it. -/
def passed (ch : Fin 4) (s : Fin 7) (c : Dev nD) : sProp 𝕄 :=
  iprop(own c (srcM ch s c) (sendV m ch s c) ∗ arrived m ch s c ∗ sendAt ch (s.val + 2) c)

/-- The six operations of step `t`, both directions. -/
theorem wp_xfer (c : Dev nD) (t : ℕ) (ht : t < 14)
    {srcR dstR srcL dstL : Memref sig .tc .vmem S128x2048 .bf16} {sSR sRR sSL sRL : DmaSem sig} {nR nL : Dev nD}
    (hR1 : srcR = srcM (chan 0 t) (stp t) c) (hR2 : dstR = dstM (chan 0 t) (stp t) (tgt (chan 0 t) c))
    (hR3 : sSR = sndS (chan 0 t) (stp t).val) (hR4 : sRR = rcvS (chan 0 t) (stp t)) (hR5 : nR = tgt (chan 0 t) c)
    (hL1 : srcL = srcM (chan 1 t) (stp t) c) (hL2 : dstL = dstM (chan 1 t) (stp t) (tgt (chan 1 t) c))
    (hL3 : sSL = sndS (chan 1 t) (stp t).val) (hL4 : sRL = rcvS (chan 1 t) (stp t)) (hL5 : nL = tgt (chan 1 t) c)
    (e1 e2 e3 e4 e5 e6) (Q : PUnit → sProp 𝕄) :
    iprop(records m K ∗ owed c (remT c t) ∗ ready m (chan 0 t) (stp t) c ∗ ready m (chan 1 t) (stp t) c
        ∗ ((owed c (remT c (t + 1)) ∗ passed m (chan 0 t) (stp t) c ∗ passed m (chan 1 t) (stp t) c) -∗ Q ⟨⟩))
      ⊢ wpB c (xfer srcR dstR srcL dstL e1 e2 e3 e4 e5 e6 sSR sRR sSL sRL nR nL) Q := by
  unfold xfer
  simp only [Prog.lift, Prog.bind_op, Prog.bind_ret, Prog.pure_eq_ret]
  unfold ready ticket
  rw [remT_step c t ht]
  iintro ⟨#HR, HO, ⟨HsR, HdR, ⟨HaR, HcR, HtR, HuR⟩, HpR⟩, ⟨HsL, HdL, ⟨HaL, HcL, HtL, HuL⟩, HpL⟩, Hk⟩
  unfold sendAt
  icases HpR with ⟨HpR, #HrR⟩
  icases HpL with ⟨HpL, #HrL⟩
  iapply (wp_start m K c nR (chan 0 t) (stp t) (remT c (t + 1) + due c 1 t) hR1 hR2 hR3 hR4 hR5) $$ [HO HsR HdR HtR HuR]
  · rw [hR1, hR2]
    isplitr; · iexact HR
    isplitl [HsR]; · iexact HsR
    isplitl [HdR]; · iexact HdR
    isplitl [HO]; · iexact HO
    isplitl [HtR]; · iexact HtR
    isplitl [HuR]; · iexact HuR
    iexact HrR
  iintro ⟨HeR, HO⟩
  iapply (wp_start m K c nL (chan 1 t) (stp t) (remT c (t + 1)) hL1 hL2 hL3 hL4 hL5) $$ [HO HsL HdL HtL HuL]
  · rw [hL1, hL2]
    isplitr; · iexact HR
    isplitl [HsL]; · iexact HsL
    isplitl [HdL]; · iexact HdL
    isplitl [HO]; · iexact HO
    isplitl [HtL]; · iexact HtL
    isplitl [HuL]; · iexact HuL
    iexact HrL
  iintro ⟨HeL, HO⟩
  have hlv (d : Fin 2) : lv (recvCell c (chan d t) (stp t)) () ≤ 1 + (t + 1) := by rw [lv_recv c d t ht]; omega
  iapply (wp_waitSend m K c (chan 0 t) (stp t) (t + 1) (by omega) hR1 hR3) $$ [HO HeR HpR]
  · isplitr; · iexact HR
    isplitl [HeR]; · iexact HeR
    isplitl [HO]; · iexact HO
    iexact HpR
  iintro ⟨HO, HqR, HsR⟩
  iapply (wp_waitRecv m K c (chan 0 t) (stp t) (t + 1) (by omega) (hlv 0) hR2 hR4) $$ [HO HcR HaR]
  · isplitr; · iexact HR
    isplitl [HcR]; · iexact HcR
    isplitl [HO]; · iexact HO
    iexact HaR
  iintro ⟨HO, HvR⟩
  iapply (wp_waitSend m K c (chan 1 t) (stp t) (t + 1) (by omega) hL1 hL3) $$ [HO HeL HpL]
  · isplitr; · iexact HR
    isplitl [HeL]; · iexact HeL
    isplitl [HO]; · iexact HO
    iexact HpL
  iintro ⟨HO, HqL, HsL⟩
  iapply (wp_waitRecv m K c (chan 1 t) (stp t) (t + 1) (by omega) (hlv 1) hL2 hL4) $$ [HO HcL HaL]
  · isplitr; · iexact HR
    isplitl [HcL]; · iexact HcL
    isplitl [HO]; · iexact HO
    iexact HaL
  iintro ⟨HO, HvL⟩
  unfold wpB; rw [wp_ret]; imodintro
  iapply Hk
  unfold passed
  rw [hR1, hL1]
  isplitl [HO]; · iexact HO
  isplitl [HsR HvR HqR]
  · isplitl [HsR]; · iexact HsR
    isplitl [HvR] <;> iassumption
  · isplitl [HsL]; · iexact HsL
    isplitl [HvL] <;> iassumption

end Cert.KernelIdealProof

end
-- ==== Proof.KernelIdealBody.lean ====
/-
# The body, step by step

The loads and stores of a step at a symbolic chunk or slot, the handshake, the reduce-scatter step, the normalisation and
the all-gather step, each proved once; then the whole body by chaining them.
-/
module

public import proofs.«01_k».proof.Proof.KernelIdealXfer

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 37 → ℕ)

/-! ## Loads and stores -/

/-- A staged argument in its buffer. -/
def xPts (c : Dev nD) : sProp 𝕄 := ((c : Thread nD τ).loc cc0_stg0_0) ↦{fullShare} xstg m c
def resPts (c : Dev nD) : sProp 𝕄 := ((c : Thread nD τ).loc cc0_stg1_0) ↦{fullShare} resstg m c
def gamPts (c : Dev nD) : sProp 𝕄 := ((c : Thread nD τ).loc cc0_stg2_0) ↦{fullShare} gamstg m c

theorem wp_getX (c : Dev nD) (i : Fin 16) {off : Fin 3 → ℕ} (e : off = ![0, 128 * i.val, 0]) (h) (Q : Vec F S1x128x2048 .bf16 → sProp 𝕄) :
    iprop(xPts m c ∗ (xPts m c -∗ Q (xRows m c i))) ⊢ wpB c (getX off h) Q := by
  subst e
  unfold getX xPts xRows wpB
  simp only [Prog.lift]
  iintro ⟨H, Hk⟩
  iapply (wp_load_rect 𝒱₀ (c : Thread nD τ) none Set.univ (m := xM) (r := Rect.unit (s := S1x2048x2048) ![0, 128 * i.val, 0] S1x128x2048.size h) (f := xstg m c) (Finset.subset_univ _)) $$ H
  iintro H
  rw [wp_ret]; imodintro
  iapply Hk; iexact H

theorem wp_getRes (c : Dev nD) (i : Fin 16) {off : Fin 2 → ℕ} (e : off = ![128 * i.val, 0]) (h) (Q : Vec F S128x2048 .bf16 → sProp 𝕄) :
    iprop(resPts m c ∗ (resPts m c -∗ Q (resRows m c i))) ⊢ wpB c (getRes off h) Q := by
  subst e
  unfold getRes resPts resRows wpB
  simp only [Prog.lift]
  iintro ⟨H, Hk⟩
  iapply (wp_load_rect 𝒱₀ (c : Thread nD τ) none Set.univ (m := resM) (r := Rect.unit (s := S2048x2048) ![128 * i.val, 0] S128x2048.size h) (f := resstg m c) (Finset.subset_univ _)) $$ H
  iintro H
  rw [wp_ret]; imodintro
  iapply Hk; iexact H

theorem wp_getGam (c : Dev nD) (Q : Vec F S2048 .bf16 → sProp 𝕄) :
    iprop(gamPts m c ∗ (gamPts m c -∗ Q (gamV m c))) ⊢ wpB c getGam Q := by
  unfold getGam gamPts gamV wpB
  simp only [Prog.lift]
  iintro ⟨H, Hk⟩
  iapply (wp_load_rect 𝒱₀ (c : Thread nD τ) none Set.univ (m := gamM) (r := Rect.unit (s := S2048) ![0] S2048.size inb_S2048_S2048_0) (f := gamstg m c) (Finset.subset_univ _)) $$ H
  iintro H
  rw [wp_ret]; imodintro
  iapply Hk; iexact H

theorem sq_inj {X Y : FVec F S1x128x2048 .bf16} (h : sq X = sq Y) : X = Y := by
  funext i
  have := congrFun h ((Shape.reshapeEquiv squeezes_S1x128x2048_S128x2048.numel_eq).symm i)
  unfold sq at this
  rwa [Equiv.apply_symm_apply] at this

/-- A receive slot read as it was filled. -/
theorem wp_getSlot (c : Dev nD) (M : Memref sig .tc .vmem S7x128x2048 .bf16) (s : ℕ) (h : s < 7) (X : FVec F S1x128x2048 .bf16)
    (Q : Vec F S1x128x2048 .bf16 → sProp 𝕄) :
    iprop(own c (mat7 M s h) (sq X) ∗ (own c (mat7 M s h) (sq X) -∗ Q X)) ⊢ wpB c (getSlot M s h) Q := by
  unfold getSlot own owns wpB
  simp only [Prog.lift]
  iintro ⟨⟨%f, %hf, H⟩, Hk⟩
  have hset : (mat7 M s h).view.set = (M.access (slot7 s h)).set := View.set_reshape _ _
  have hX : (M.access (slot7 s h)).read (Elt F) f = X := sq_inj hf
  iapply (wp_load_rect 𝒱₀ (c : Thread nD τ) none Set.univ (m := M) (r := slot7 s h) (S := (mat7 M s h).view.set) (f := f) (q := fullShare) (by rw [hset])) $$ H
  iintro H
  rw [wp_ret, hX]; imodintro
  iapply Hk
  iexists f; isplitr
  · ipureintro; exact hf
  · iexact H

/-- A send slot filled. -/
theorem wp_putSlot (c : Dev nD) (M : Memref sig .tc .vmem S2x128x2048 .bf16) (hm : M.IsWhole) (p : ℕ) (h : p < 2) (X : FVec F S1x128x2048 .bf16)
    (Q : PUnit → sProp 𝕄) :
    iprop(some' (F := F) c (mat2 M p h) ∗ (own c (mat2 M p h) (sq X) -∗ Q ⟨⟩)) ⊢ wpB c (putSlot M hm p h X) Q := by
  unfold putSlot some' own owns wpB
  simp only [Prog.lift, Prog.bind_op, Prog.bind_ret]
  iintro ⟨⟨%Y, %f, %hf, H⟩, Hk⟩
  have hset : (mat2 M p h).view.set = (M.access (slot2 p h)).set := View.set_reshape _ _
  iapply (wp_load_rect 𝒱₀ (c : Thread nD τ) none Set.univ (m := M) (r := slot2 p h) (S := (mat2 M p h).view.set) (f := f) (q := fullShare) (by rw [hset])) $$ H
  iintro H
  iapply (wp_store 𝒱₀ (c : Thread nD τ) none Set.univ (m := M) (r := slot2 p h) (Mk := Finset.univ) (S := (mat2 M p h).view.set) (f := f)
    (subset_of_eq hset.symm)) $$ H
  iintro H
  rw [wp_ret]; imodintro
  iapply Hk
  iexists _; isplitr [H]
  rotate_left
  · iexact H
  · ipureintro
    show sq ((M.access (slot2 p h)).read (Elt F) ((M.access (slot2 p h)).write (Elt F) f X Finset.univ)) = sq X
    rw [View.read_write_univ]

/-- A chunk of the result filled. -/
theorem wp_putRows (c : Dev nD) (i : Fin 16) {off : Fin 2 → ℕ} (e : off = ![128 * i.val, 0]) (h hp) (X : FVec F S128x2048 .bf16)
    (Q : PUnit → sProp 𝕄) :
    iprop(some' (F := F) c (rowM i) ∗ (own c (rowM i) X -∗ Q ⟨⟩)) ⊢ wpB c (putRows off h hp X) Q := by
  subst e
  unfold putRows some' own owns wpB
  simp only [Prog.lift, Prog.bind_op, Prog.bind_ret]
  iintro ⟨⟨%Y, %f, %hf, H⟩, Hk⟩
  iapply (wp_load_rect 𝒱₀ (c : Thread nD τ) none Set.univ (m := outM) (r := Rect.unit (s := S2048x2048) ![128 * i.val, 0] S128x2048.size h) (S := (rowM i).view.set) (f := f) (q := fullShare) (subset_refl _)) $$ H
  iintro H
  iapply (wp_store 𝒱₀ (c : Thread nD τ) none Set.univ (m := outM) (r := Rect.unit (s := S2048x2048) ![128 * i.val, 0] S128x2048.size h) (Mk := Finset.univ) (S := (rowM i).view.set) (f := f) (by rw [View.setOn_univ])) $$ H
  iintro H
  rw [wp_ret]; imodintro
  iapply Hk
  iexists _; isplitr [H]
  rotate_left
  · iexact H
  · ipureintro; exact View.read_write_univ _ _

/-! ## A step's transfers, by phase -/

theorem dev_eq {n : ℕ} (h : n < nD) {d : Dev nD} (e : n = d.val) : (⟨n, h⟩ : Dev nD) = d := Fin.ext e

theorem lo_congr {i j : ℕ} (h : i % 8 = j % 8) : lo i = lo j := Fin.ext h
theorem hi_congr {i j : ℕ} (h : i % 8 = j % 8) : hi i = hi j := Fin.ext (by show 8 + i % 8 = 8 + j % 8; rw [h])

theorem rowsAt_eq (i : Fin 16) {off : Fin 2 → ℕ} (e : off = ![128 * i.val, 0]) (h) : rowsAt off h = rowM i := by subst e; rfl

theorem sem2_eq (ch : Fin 4) (k : ℕ) :
    sem2 (match ch with | 0 => cc0_scratch4 | 1 => cc0_scratch6 | 2 => cc0_scratch8 | 3 => cc0_scratch10) (k % 2) (Nat.mod_lt _ (by decide)) = sndS ch k := by
  have : ∀ p : Fin 2, ∀ ch : Fin 4, sem2 (match ch with | 0 => cc0_scratch4 | 1 => cc0_scratch6 | 2 => cc0_scratch8 | 3 => cc0_scratch10) p.val p.isLt
      = sndS ch p.val := by decide
  have h := this ⟨k % 2, Nat.mod_lt _ (by decide)⟩ ch
  refine h.trans ?_
  unfold sndS; exact Fin.ext (by show 4 + 9 * ch.val + k % 2 % 2 = 4 + 9 * ch.val + k % 2; omega)

theorem sem7_eq : ∀ (ch : Fin 4) (s : Fin 7),
    sem7 (match ch with | 0 => cc0_scratch5 | 1 => cc0_scratch7 | 2 => cc0_scratch9 | 3 => cc0_scratch11) s.val s.isLt = rcvS ch s := by decide

theorem chan_rs (d : Fin 2) (s : Fin 7) : chan d s.val = ⟨d.val, by have := d.isLt; omega⟩ :=
  Fin.ext (by have := s.isLt; show 2 * (s.val / 7 % 2) + d.val = d.val; omega)
theorem chan_ag (d : Fin 2) (s : Fin 7) : chan d (7 + s.val) = ⟨2 + d.val, by have := d.isLt; omega⟩ :=
  Fin.ext (by have := s.isLt; show 2 * ((7 + s.val) / 7 % 2) + d.val = 2 + d.val; omega)
theorem stp_rs (s : Fin 7) : stp s.val = s := Fin.ext (by have := s.isLt; show s.val % 7 = s.val; omega)
theorem stp_ag (s : Fin 7) : stp (7 + s.val) = s := Fin.ext (by have := s.isLt; show (7 + s.val) % 7 = s.val; omega)

theorem wp_rsXfer (c : Dev nD) (s : Fin 7) {nR nL : Dev nD} (hR : nR = nxt c) (hL : nL = prv c) (Q : PUnit → sProp 𝕄) :
    iprop(records m K ∗ owed c (remT c s.val) ∗ ready m 0 s c ∗ ready m 1 s c
        ∗ ((owed c (remT c (s.val + 1)) ∗ passed m 0 s c ∗ passed m 1 s c) -∗ Q ⟨⟩))
      ⊢ wpB c (rsXfer s nR nL) Q := by
  have h := wp_xfer (F := F) m K c s.val (by have := s.isLt; omega) (nR := nR) (nL := nL)
    (srcR := mat2 sndR (s.val % 2) (Nat.mod_lt _ (by decide))) (dstR := mat7 rcvR s.val s.isLt)
    (srcL := mat2 sndL (s.val % 2) (Nat.mod_lt _ (by decide))) (dstL := mat7 rcvL s.val s.isLt)
    (sSR := sem2 cc0_scratch4 (s.val % 2) (Nat.mod_lt _ (by decide))) (sRR := sem7 cc0_scratch5 s.val s.isLt)
    (sSL := sem2 cc0_scratch6 (s.val % 2) (Nat.mod_lt _ (by decide))) (sRL := sem7 cc0_scratch7 s.val s.isLt)
  simp only [chan_rs, stp_rs] at h
  exact h rfl rfl (sem2_eq 0 s.val) (sem7_eq 0 s) hR rfl rfl (sem2_eq 1 s.val) (sem7_eq 1 s) hL _ _ _ _ _ _ Q

theorem wp_agXfer (c : Dev nD) (s : Fin 7) {nR nL : Dev nD} (hR : nR = nxt c) (hL : nL = prv c) (Q : PUnit → sProp 𝕄) :
    iprop(records m K ∗ owed c (remT c (7 + s.val)) ∗ ready m 2 s c ∗ ready m 3 s c
        ∗ ((owed c (remT c (7 + s.val + 1)) ∗ passed m 2 s c ∗ passed m 3 s c) -∗ Q ⟨⟩))
      ⊢ wpB c (agXfer c s nR nL) Q := by
  have hs := s.isLt
  have hc : c.val < 8 := c.isLt
  have e1 : rowsAt (k0_off9 c (BitVec.ofNat 32 s.val)) (k0_off9_inb c s) = rowM (lo (c.val + 9 - s.val)) :=
    rowsAt_eq (lo (c.val + 9 - s.val)) (k0_off9_eq c s) _
  have e2 : rowsAt (k0_off10 c (BitVec.ofNat 32 s.val)) (k0_off10_inb c s) = rowM (hi (c.val + s.val + 7)) :=
    rowsAt_eq (hi (c.val + s.val + 7)) ((k0_off10_eq c s).trans (by
      congr 1; show 128 * ((c.val + s.val + 7) % 8) + 1024 = 128 * (8 + (c.val + s.val + 7) % 8); omega)) _
  have h := wp_xfer (F := F) m K c (7 + s.val) (by omega) (nR := nR) (nL := nL)
    (srcR := rowsAt (k0_off9 c (BitVec.ofNat 32 s.val)) (k0_off9_inb c s)) (dstR := rowsAt (k0_off9 c (BitVec.ofNat 32 s.val)) (k0_off9_inb c s))
    (srcL := rowsAt (k0_off10 c (BitVec.ofNat 32 s.val)) (k0_off10_inb c s)) (dstL := rowsAt (k0_off10 c (BitVec.ofNat 32 s.val)) (k0_off10_inb c s))
    (sSR := sem2 cc0_scratch8 (s.val % 2) (Nat.mod_lt _ (by decide))) (sRR := sem7 cc0_scratch9 s.val s.isLt)
    (sSL := sem2 cc0_scratch10 (s.val % 2) (Nat.mod_lt _ (by decide))) (sRL := sem7 cc0_scratch11 s.val s.isLt)
  simp only [chan_ag, stp_ag] at h
  exact h e1 (e1.trans (by
      show rowM _ = rowM (lo ((nxt c).val + 8 - s.val))
      rw [lo_congr (i := (nxt c).val + 8 - s.val) (j := c.val + 9 - s.val) (by show ((c.val + 1) % 8 + 8 - s.val) % 8 = _; omega)]))
    (sem2_eq 2 s.val) (sem7_eq 2 s) hR
    e2 (e2.trans (by
      show rowM _ = rowM (hi ((prv c).val + s.val))
      rw [hi_congr (i := (prv c).val + s.val) (j := c.val + s.val + 7) (by show ((c.val + 7) % 8 + s.val) % 8 = _; omega)]))
    (sem2_eq 3 s.val) (sem7_eq 3 s) hL _ _ _ _ _ _ Q

end Cert.KernelIdealProof

end
-- ==== Proof.KernelIdealChain.lean ====
/-
# The body as a chain of steps

What a device holds before and after each step of the two phases, the phases' steps at a symbolic step number, and the
whole body from the launch's start to its end (`wp_steps`).
-/
module

public import proofs.«01_k».proof.Proof.KernelIdealBody

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 37 → ℕ)

/-! ## A family over the first so many steps, and over the others -/

def upto {n : ℕ} (P : Fin n → sProp 𝕄) (k : ℕ) : sProp 𝕄 := bigSep (Finset.univ.filter fun i : Fin n => i.val < k) P
def from' {n : ℕ} (P : Fin n → sProp 𝕄) (k : ℕ) : sProp 𝕄 := bigSep (Finset.univ.filter fun i : Fin n => k ≤ i.val) P

theorem upto_zero {n : ℕ} (P : Fin n → sProp 𝕄) : upto P 0 = iprop(emp) := by
  unfold upto; rw [Finset.filter_eq_empty_iff.mpr fun i _ => Nat.not_lt_zero _]; rfl
theorem upto_succ {n : ℕ} (P : Fin n → sProp 𝕄) (i : Fin n) : upto P (i.val + 1) = iprop(P i ∗ upto P i.val) := by
  unfold upto
  refine Eq.trans ?_ (bigSep_insert (Φ := P) (i := i) (s := Finset.univ.filter fun j : Fin n => j.val < i.val) (by simp))
  congr 1
  ext j; simp only [Finset.mem_filter, Finset.mem_univ, true_and, Finset.mem_insert, Fin.ext_iff]; omega
theorem upto_all {n : ℕ} (P : Fin n → sProp 𝕄) : upto P n = bigSep Finset.univ P := by
  unfold upto; rw [Finset.filter_true_of_mem fun i _ => i.isLt]
theorem from_zero {n : ℕ} (P : Fin n → sProp 𝕄) : from' P 0 = bigSep Finset.univ P := by
  unfold from'; rw [Finset.filter_true_of_mem fun i _ => Nat.zero_le _]
theorem from_step {n : ℕ} (P : Fin n → sProp 𝕄) (i : Fin n) : from' P i.val = iprop(P i ∗ from' P (i.val + 1)) := by
  unfold from'
  refine Eq.trans ?_ (bigSep_insert (Φ := P) (i := i) (s := Finset.univ.filter fun j : Fin n => i.val + 1 ≤ j.val) (by simp))
  congr 1
  ext j; simp only [Finset.mem_filter, Finset.mem_univ, true_and, Finset.mem_insert, Fin.ext_iff]; omega

/-! ## The handshake -/

/-- What the handshake takes: a unit owed to each neighbour's barrier with the duties' tokens, the place and the credit on
    the device's own, and everything that is to be handed out. -/
def shakePre (c : Dev nD) : sProp 𝕄 :=
  iprop(owed c (O₀ c) ∗ atPos ER (barCell c) 0 ∅ 0 ∗ cred (tallyAt (barCell c) () 2)
    ∗ dutyTok ER (barCell (prv c)) 0 true ∗ dutyTok ER (barCell (nxt c)) 0 false
    ∗ landing (F := F) 0 c ∗ landing (F := F) 1 c ∗ landing (F := F) 2 c ∗ landing (F := F) 3 c)
/-- What it brings: the neighbours' places to land in. -/
def shakePost (c : Dev nD) : sProp 𝕄 :=
  iprop(owed c (remT c 0) ∗ semVal (barCell c) 0
    ∗ landing (F := F) 0 (tgt 0 c) ∗ landing (F := F) 1 (tgt 1 c) ∗ landing (F := F) 2 (tgt 2 c) ∗ landing (F := F) 3 (tgt 3 c))

theorem reached_bar (c : Dev nD) : records m K ⊢ reached ER (barCell c) 0 := reached_at m K (c, 36)
theorem inv_bar (c : Dev nD) : records m K ⊢ cellInv ER (ringRd m) (K (c, 36)) (barCell c) := inv_at m K (c, 36)

theorem pay_prv (c : Dev nD) : iprop(landing (F := F) 0 c ∗ landing (F := F) 2 c) ⊢ (ringRd m).payload (barCell (prv c)) 0 true := by
  show _ ⊢ barPay (F := F) (prv c) true
  unfold barPay
  rw [if_pos rfl, nxt_prv]
theorem pay_nxt (c : Dev nD) : iprop(landing (F := F) 1 c ∗ landing (F := F) 3 c) ⊢ (ringRd m).payload (barCell (nxt c)) 0 false := by
  show _ ⊢ barPay (F := F) (nxt c) false
  unfold barPay
  rw [if_neg Bool.false_ne_true, prv_nxt]

theorem wp_shake (c : Dev nD) {nL nR : Dev nD} (hL : nL = prv c) (hR : nR = nxt c) (Q : PUnit → sProp 𝕄) :
    iprop(records m K ∗ shakePre (F := F) c ∗ (shakePost (F := F) c -∗ Q ⟨⟩)) ⊢ wpB c (shake nL nR) Q := by
  subst hL hR
  unfold shake shakePre owed O₀ wpB
  simp only [semSignalWord, semWaitWord, Prog.lift, Prog.bind_op, Prog.bind_ret, Prog.pure_eq_ret]
  iintro ⟨#HR, ⟨⟨%W, HO⟩, Ha, Hc, HtP, HtN, H0, H1, H2, H3⟩, Hk⟩
  ihave #HIP := (inv_bar m K (prv c)) $$ HR
  ihave #HIN := (inv_bar m K (nxt c)) $$ HR
  ihave #HI := (inv_bar m K c) $$ HR
  ihave #HrP := (reached_bar m K (prv c)) $$ HR
  ihave #HrN := (reached_bar m K (nxt c)) $$ HR
  ihave #Hl := (levs m K) $$ HR
  iapply (Rounds.wp_signal 𝒱₀ ER (ringRd m) (c : Thread nD τ) none (dst := (prv c : Thread nD τ)) (κ := K (prv c, 36))
      (d := true) (by rw [duties_bar]; exact Finset.mem_univ _) ((amount_bar m (prv c) true).trans (by decide)) ()
      (remT c 0 + tallyAt (barCell (nxt c)) () 1) rfl) $$ [HO HtP H0 H2]
  · isplitr; · iexact HIP
    isplitl [HO]; · iexact HO
    isplitl [HtP]; · iexact HtP
    isplitl [H0 H2]
    · iapply (pay_prv m c)
      isplitl [H0] <;> iassumption
    iexact HrP
  iintro HO
  iapply (Rounds.wp_signal 𝒱₀ ER (ringRd m) (c : Thread nD τ) none (dst := (nxt c : Thread nD τ)) (κ := K (nxt c, 36))
      (d := false) (by rw [duties_bar]; exact Finset.mem_univ _) ((amount_bar m (nxt c) false).trans (by decide)) ()
      (remT c 0) rfl) $$ [HO HtN H1 H3]
  · isplitr; · iexact HIN
    isplitl [HO]; · iexact HO
    isplitl [HtN]; · iexact HtN
    isplitl [H1 H3]
    · iapply (pay_nxt m c)
      isplitl [H1] <;> iassumption
    iexact HrN
  iintro HO
  iapply (Rounds.wp_wait_rest_token 𝒱₀ ER (ringRd m) (c : Thread nD τ) none (κ := K (c, 36))
      (wpE_semWait_eq 𝒱₀ (c : Thread nD τ) none Set.univ) (Set.mem_univ _) () (O := remT c 0) (W := W) (R := 0) (m := 0) (T := ∅)
      (by rw [expect_bar]; decide)) $$ [Hc HO Ha]
  · isplitr; · iexact HI
    isplitl [Hc]; · iexact Hc
    isplitl [HO]; · iexact HO
    isplitr; · iapply (mayWait_rem c (.reg barS) 0 (by decide) (by rw [lv_bar])); iexact Hl
    iexact Ha
  iintro ⟨HO, Ha, -, Hp⟩
  ihave Hp := (Entails.of_eq (rest_bar m c)) $$ Hp
  imod (Rounds.cell_close ER (ringRd m) (Set.mem_univ (K (c, 36))) (fun h => h) (R := 0 + 1) (duties_bar_later m c)) $$ [Ha] with Hz
  · isplitr; · iexact HI
    iexact Ha
  unfold barPay
  rw [if_pos rfl, if_neg Bool.false_ne_true]
  icases Hp with ⟨⟨H0, H2⟩, H1, H3⟩
  rw [wp_ret]; imodintro
  iapply Hk
  unfold shakePost owed
  isplitl [HO]; · iexists _; iexact HO
  isplitl [Hz]; · iexact Hz
  isplitl [H0]; · iexact H0
  isplitl [H1]; · iexact H1
  isplitl [H2]; · iexact H2
  iexact H3

/-! ## The reduce-scatter -/

/-- The send slot of a reduce-scatter channel that step `k` uses. -/
def slotM (ch : Fin 4) (k : ℕ) : Memref sig .tc .vmem S128x2048 .bf16 :=
  match ch with
  | 0 => mat2 sndR (k % 2) (Nat.mod_lt _ (by decide))
  | _ => mat2 sndL (k % 2) (Nat.mod_lt _ (by decide))

theorem mat2_congr (M : Memref sig .tc .vmem S2x128x2048 .bf16) {p p' : ℕ} (e : p = p') (h h') : mat2 M p h = mat2 M p' h' := by subst e; rfl
theorem slotM_add_two (ch : Fin 4) (k : ℕ) : slotM ch (k + 2) = slotM ch k := by
  unfold slotM
  split <;> exact mat2_congr _ (by omega) _ _

/-- What one step of a channel takes: its ticket and a place at the target to land in. -/
def fare (ch : Fin 4) (c : Dev nD) (s : Fin 7) : sProp 𝕄 := iprop(ticket ch s c ∗ some' (F := F) (tgt ch c) (dstM ch s (tgt ch c)))

/-- A reduce-scatter channel before step `s`: the slot to be sent, the other slot free, the places on the two send
    semaphores, the fares of the steps to come, what arrived in those done. -/
def rsIn (ch : Fin 4) (s : Fin 7) (c : Dev nD) : sProp 𝕄 :=
  iprop(own c (srcM ch s c) (sendV m ch s c) ∗ some' (F := F) c (slotM ch (s.val + 1)) ∗ sendAt ch s.val c ∗ sendAt ch (s.val + 1) c
    ∗ from' (fare ch c) s.val ∗ upto (fun i => arrived m ch i c) s.val)
/-- The same after step `s`'s transfers. -/
def rsOut (ch : Fin 4) (s : Fin 7) (c : Dev nD) : sProp 𝕄 :=
  iprop(own c (srcM ch s c) (sendV m ch s c) ∗ some' (F := F) c (slotM ch (s.val + 1)) ∗ sendAt ch (s.val + 1) c ∗ sendAt ch (s.val + 2) c
    ∗ from' (fare ch c) (s.val + 1) ∗ arrived m ch s c ∗ upto (fun i => arrived m ch i c) s.val)

theorem rs_step (c : Dev nD) (s : Fin 7) {nR nL : Dev nD} (hR : nR = nxt c) (hL : nL = prv c) (Q : PUnit → sProp 𝕄) :
    iprop(records m K ∗ owed c (remT c s.val) ∗ rsIn m 0 s c ∗ rsIn m 1 s c
        ∗ ((owed c (remT c (s.val + 1)) ∗ rsOut m 0 s c ∗ rsOut m 1 s c) -∗ Q ⟨⟩))
      ⊢ wpB c (rsXfer s nR nL) Q := by
  unfold rsIn
  rw [from_step (fare 0 c) s, from_step (fare 1 c) s]
  unfold fare
  iintro ⟨#HR, HO, ⟨Hs0, Hf0, Hp0, Hq0, ⟨⟨Ht0, Hd0⟩, Hr0⟩, Hu0⟩, ⟨Hs1, Hf1, Hp1, Hq1, ⟨⟨Ht1, Hd1⟩, Hr1⟩, Hu1⟩, Hk⟩
  iapply (wp_rsXfer m K c s hR hL)
  isplitr; · iexact HR
  isplitl [HO]; · iexact HO
  isplitl [Hs0 Hd0 Ht0 Hp0]
  · unfold ready
    isplitl [Hs0]; · iexact Hs0
    isplitl [Hd0]; · iexact Hd0
    isplitl [Ht0] <;> iassumption
  isplitl [Hs1 Hd1 Ht1 Hp1]
  · unfold ready
    isplitl [Hs1]; · iexact Hs1
    isplitl [Hd1]; · iexact Hd1
    isplitl [Ht1] <;> iassumption
  iintro ⟨HO, Hx0, Hx1⟩
  unfold passed
  icases Hx0 with ⟨Hs0, Ha0, Hp0⟩
  icases Hx1 with ⟨Hs1, Ha1, Hp1⟩
  iapply Hk
  isplitl [HO]; · iexact HO
  unfold rsOut fare
  isplitl [Hs0 Hf0 Hq0 Hp0 Hr0 Ha0 Hu0]
  · isplitl [Hs0]; · iexact Hs0
    isplitl [Hf0]; · iexact Hf0
    isplitl [Hq0]; · iexact Hq0
    isplitl [Hp0]; · iexact Hp0
    isplitl [Hr0]; · iexact Hr0
    isplitl [Ha0] <;> iassumption
  · isplitl [Hs1]; · iexact Hs1
    isplitl [Hf1]; · iexact Hf1
    isplitl [Hq1]; · iexact Hq1
    isplitl [Hp1]; · iexact Hp1
    isplitl [Hr1]; · iexact Hr1
    isplitl [Ha1] <;> iassumption

theorem wpB_bind (c : Dev nD) {α β : Type} (p : Prog (TpuEff nD τ sig (Elt F) Λ₀ .tc) α) (k : α → Prog (TpuEff nD τ sig (Elt F) Λ₀ .tc) β)
    (Q : β → sProp 𝕄) : wpB c (p >>= k) Q = wpB c p (fun a => wpB c (k a) Q) := wp_bind ..

/-- Between two steps: each channel's next slot filled with what arrived plus the device's own chunk. -/
theorem wp_rsAdd (c : Dev nD) (r : Fin 6) (Q : PUnit → sProp 𝕄) :
    iprop(xPts m c ∗ rsOut m 0 r.castSucc c ∗ rsOut m 1 r.castSucc c ∗ ((xPts m c ∗ rsIn m 0 r.succ c ∗ rsIn m 1 r.succ c) -∗ Q ⟨⟩))
      ⊢ wpB c (rsAdd c r) Q := by
  have hc : c.val < 8 := c.isLt
  have hr := r.isLt
  have a0 : recvPay m 0 r.castSucc c = own c (mat7 rcvR r.val (by omega)) (sq (accR m r.val (prv c))) := rfl
  have a1 : recvPay m 1 r.castSucc c = own c (mat7 rcvL r.val (by omega)) (sq (accL m r.val (nxt c))) := rfl
  unfold rsAdd rsOut arrived
  rw [a0, a1]
  iintro ⟨Hx, ⟨Hs0, Hf0, Hp0, Hq0, Hr0, ⟨Hz0, Ha0⟩, Hu0⟩, ⟨Hs1, Hf1, Hp1, Hq1, Hr1, ⟨Hz1, Ha1⟩, Hu1⟩, Hk⟩
  rw [wpB_bind]
  iapply (wp_getSlot c rcvR r.val _ (accR m r.val (prv c)))
  isplitl [Ha0]; · iexact Ha0
  iintro Ha0
  rw [wpB_bind]
  iapply (wp_getX m c (lo (c.val + 7 - r.val)) (k0_off3_eq c r))
  isplitl [Hx]; · iexact Hx
  iintro Hx
  rw [wpB_bind]
  iapply (wp_getSlot c rcvL r.val _ (accL m r.val (nxt c)))
  isplitl [Ha1]; · iexact Ha1
  iintro Ha1
  rw [wpB_bind]
  iapply (wp_getX m c (hi (c.val + r.val + 1)) ((k0_off4_eq c r).trans (by
    congr 2; show 128 * ((c.val + r.val + 1) % 8) + 1024 = 128 * (8 + (c.val + r.val + 1) % 8); omega)))
  isplitl [Hx]; · iexact Hx
  iintro Hx
  rw [wpB_bind]
  iapply (wp_putSlot c sndR (Memref.isWhole_whole _) ((r.val + 1) % 2) (Nat.mod_lt _ (by decide)) _)
  isplitl [Hf0]; · iexact Hf0
  iintro Hn0
  iapply (wp_putSlot c sndL (Memref.isWhole_whole _) ((r.val + 1) % 2) (Nat.mod_lt _ (by decide)) _)
  isplitl [Hf1]; · iexact Hf1
  iintro Hn1
  iapply Hk
  isplitl [Hx]; · iexact Hx
  unfold rsIn
  rw [show r.succ.val = r.castSucc.val + 1 from rfl, upto_succ, upto_succ,
    show r.castSucc.val + 1 + 1 = r.castSucc.val + 2 from rfl, slotM_add_two, slotM_add_two]
  unfold arrived
  rw [a0, a1]
  isplitl [Hs0 Hn0 Hp0 Hq0 Hr0 Hz0 Ha0 Hu0]
  · isplitl [Hn0]; · iexact Hn0
    isplitl [Hs0]; · iexists _; iexact Hs0
    isplitl [Hp0]; · iexact Hp0
    isplitl [Hq0]; · iexact Hq0
    isplitl [Hr0]; · iexact Hr0
    isplitl [Hz0 Ha0]
    · isplitl [Hz0]; · iexact Hz0
      iexact Ha0
    iexact Hu0
  · isplitl [Hn1]; · iexact Hn1
    isplitl [Hs1]; · iexists _; iexact Hs1
    isplitl [Hp1]; · iexact Hp1
    isplitl [Hq1]; · iexact Hq1
    isplitl [Hr1]; · iexact Hr1
    isplitl [Hz1 Ha1]
    · isplitl [Hz1]; · iexact Hz1
      iexact Ha1
    iexact Hu1

/-- The start: each channel's first slot filled with the device's own chunk. -/
theorem wp_rsInit (c : Dev nD) (Q : PUnit → sProp 𝕄) :
    iprop(xPts m c ∗ some' (F := F) c (slotM 0 0) ∗ some' (F := F) c (slotM 1 0)
        ∗ ((xPts m c ∗ own c (srcM 0 0 c) (sendV m 0 0 c) ∗ own c (srcM 1 0 c) (sendV m 1 0 c)) -∗ Q ⟨⟩))
      ⊢ wpB c (rsInit c) Q := by
  have hc : c.val < 8 := c.isLt
  unfold rsInit
  iintro ⟨Hx, H0, H1, Hk⟩
  rw [wpB_bind]
  iapply (wp_getX m c (lo c.val) ((k0_off1_eq c).trans (by show ![0, 128 * c.val, 0] = ![0, 128 * (c.val % 8), 0]; rw [Nat.mod_eq_of_lt hc])))
  isplitl [Hx]; · iexact Hx
  iintro Hx
  rw [wpB_bind]
  iapply (wp_putSlot c sndR (Memref.isWhole_whole _) 0 _ _)
  isplitl [H0]; · iexact H0
  iintro H0
  rw [wpB_bind]
  iapply (wp_getX m c (hi c.val) ((k0_off2_eq c).trans (by show ![0, 128 * c.val + 1024, 0] = ![0, 128 * (8 + c.val % 8), 0]; rw [Nat.mod_eq_of_lt hc, Nat.mul_add, Nat.add_comm])))
  isplitl [Hx]; · iexact Hx
  iintro Hx
  iapply (wp_putSlot c sndL (Memref.isWhole_whole _) 0 _ _)
  isplitl [H1]; · iexact H1
  iintro H1
  iapply Hk
  isplitl [Hx]; · iexact Hx
  isplitl [H0]; · iexact H0
  iexact H1

/-! ## The normalisation -/

/-- The last arrivals, summed with the device's own chunks, become the two finished chunks. -/
theorem wp_norm (c : Dev nD) (Q : PUnit → sProp 𝕄) :
    iprop(xPts m c ∗ resPts m c ∗ gamPts m c ∗ rsOut m 0 6 c ∗ rsOut m 1 6 c
        ∗ some' (F := F) c (rowM (lo (c.val + 1))) ∗ some' (F := F) c (rowM (hi (c.val + 7)))
        ∗ ((xPts m c ∗ resPts m c ∗ gamPts m c ∗ rsOut m 0 6 c ∗ rsOut m 1 6 c
            ∗ own c (rowM (lo (c.val + 1))) (outV m (lo (c.val + 1))) ∗ own c (rowM (hi (c.val + 7))) (outV m (hi (c.val + 7)))) -∗ Q ⟨⟩))
      ⊢ wpB c (norm c) Q := by
  have hc : c.val < 8 := c.isLt
  have e6 : k0_off6 c = ![128 * (lo (c.val + 1)).val, 0] := k0_off6_eq c
  have e5 : k0_off5 c = ![0, 128 * (lo (c.val + 1)).val, 0] := k0_off5_eq c
  have e8 : k0_off8 c = ![128 * (hi (c.val + 7)).val, 0] := (k0_off8_eq c).trans (by
    congr 1; show 128 * ((c.val + 7) % 8) + 1024 = 128 * (8 + (c.val + 7) % 8); omega)
  have e7 : k0_off7 c = ![0, 128 * (hi (c.val + 7)).val, 0] := (k0_off7_eq c).trans (by
    congr 2; show 128 * ((c.val + 7) % 8) + 1024 = 128 * (8 + (c.val + 7) % 8); omega)
  have a0 : recvPay m 0 6 c = own c (mat7 rcvR 6 (by decide)) (sq (accR m 6 (prv c))) := rfl
  have a1 : recvPay m 1 6 c = own c (mat7 rcvL 6 (by decide)) (sq (accL m 6 (nxt c))) := rfl
  unfold norm rsOut arrived
  rw [a0, a1]
  iintro ⟨Hx, Hr, Hg, ⟨Hs0, Hf0, Hp0, Hq0, Hr0, ⟨Hz0, Ha0⟩, Hu0⟩, ⟨Hs1, Hf1, Hp1, Hq1, Hr1, ⟨Hz1, Ha1⟩, Hu1⟩, Ho0, Ho1, Hk⟩
  rw [wpB_bind]
  iapply (wp_getGam m c)
  isplitl [Hg]; · iexact Hg
  iintro Hg
  rw [wpB_bind]
  iapply (wp_getSlot c rcvR 6 _ (accR m 6 (prv c)))
  isplitl [Ha0]; · iexact Ha0
  iintro Ha0
  rw [wpB_bind]
  iapply (wp_getX m c _ e5)
  isplitl [Hx]; · iexact Hx
  iintro Hx
  rw [wpB_bind]
  iapply (wp_getRes m c _ e6)
  isplitl [Hr]; · iexact Hr
  iintro Hr
  rw [wpB_bind]
  iapply (wp_putRows c _ e6)
  isplitl [Ho0]; · iexact Ho0
  iintro Ho0
  rw [wpB_bind]
  iapply (wp_getSlot c rcvL 6 _ (accL m 6 (nxt c)))
  isplitl [Ha1]; · iexact Ha1
  iintro Ha1
  rw [wpB_bind]
  iapply (wp_getX m c _ e7)
  isplitl [Hx]; · iexact Hx
  iintro Hx
  rw [wpB_bind]
  iapply (wp_getRes m c _ e8)
  isplitl [Hr]; · iexact Hr
  iintro Hr
  iapply (wp_putRows c _ e8)
  isplitl [Ho1]; · iexact Ho1
  iintro Ho1
  iapply Hk
  rw [outV_lo, outV_hi]
  isplitl [Hx]; · iexact Hx
  isplitl [Hr]; · iexact Hr
  isplitl [Hg]; · iexact Hg
  isplitl [Hs0 Hf0 Hp0 Hq0 Hr0 Hz0 Ha0 Hu0]
  · isplitl [Hs0]; · iexact Hs0
    isplitl [Hf0]; · iexact Hf0
    isplitl [Hp0]; · iexact Hp0
    isplitl [Hq0]; · iexact Hq0
    isplitl [Hr0]; · iexact Hr0
    isplitl [Hz0 Ha0]
    · isplitl [Hz0]; · iexact Hz0
      iexact Ha0
    iexact Hu0
  isplitl [Hs1 Hf1 Hp1 Hq1 Hr1 Hz1 Ha1 Hu1]
  · isplitl [Hs1]; · iexact Hs1
    isplitl [Hf1]; · iexact Hf1
    isplitl [Hp1]; · iexact Hp1
    isplitl [Hq1]; · iexact Hq1
    isplitl [Hr1]; · iexact Hr1
    isplitl [Hz1 Ha1]
    · isplitl [Hz1]; · iexact Hz1
      iexact Ha1
    iexact Hu1
  isplitl [Ho0]; · iexact Ho0
  iexact Ho1

/-! ## The all-gather -/

/-- The chunk an all-gather channel sends at step `k`, which is the one that arrived at step `k - 1`. -/
def rowIx (ch : Fin 4) (k : ℕ) (c : Dev nD) : Fin 16 := if ch = 2 then lo (c.val + 9 - k) else hi (c.val + k + 7)

/-- An all-gather channel before step `s`: the finished chunks held so far, and the rest as in the reduce-scatter. -/
def agAt (ch : Fin 4) (k : ℕ) (c : Dev nD) : sProp 𝕄 :=
  iprop(upto (fun i : Fin 8 => own c (rowM (rowIx ch i.val c)) (outV m (rowIx ch i.val c))) (k + 1) ∗ sendAt ch k c ∗ sendAt ch (k + 1) c
    ∗ from' (fare ch c) k ∗ upto (fun i : Fin 7 => (semVal (recvCell c ch i) 0 : sProp 𝕄)) k)

theorem src_ag2 (s : Fin 7) (c : Dev nD) : own c (srcM 2 s c) (sendV m 2 s c) = own c (rowM (rowIx 2 s.val c)) (outV m (rowIx 2 s.val c)) := rfl
theorem src_ag3 (s : Fin 7) (c : Dev nD) : own c (srcM 3 s c) (sendV m 3 s c) = own c (rowM (rowIx 3 s.val c)) (outV m (rowIx 3 s.val c)) := rfl
theorem arr_ag2 (s : Fin 7) (c : Dev nD) : recvPay m 2 s c = own c (rowM (rowIx 2 (s.val + 1) c)) (outV m (rowIx 2 (s.val + 1) c)) := by
  have := s.isLt
  have hc : c.val < 8 := c.isLt
  show own c (rowM (lo (c.val + 8 - s.val))) (outV m (lo ((prv c).val + 9 - s.val))) = own c (rowM (lo (c.val + 9 - (s.val + 1)))) (outV m (lo (c.val + 9 - (s.val + 1))))
  rw [lo_congr (i := (prv c).val + 9 - s.val) (j := c.val + 9 - (s.val + 1)) (by show ((c.val + 7) % 8 + 9 - s.val) % 8 = _; omega),
    lo_congr (i := c.val + 8 - s.val) (j := c.val + 9 - (s.val + 1)) (by omega)]
theorem arr_ag3 (s : Fin 7) (c : Dev nD) : recvPay m 3 s c = own c (rowM (rowIx 3 (s.val + 1) c)) (outV m (rowIx 3 (s.val + 1) c)) := by
  have := s.isLt
  have hc : c.val < 8 := c.isLt
  show own c (rowM (hi (c.val + s.val))) (outV m (hi ((nxt c).val + s.val + 7))) = own c (rowM (hi (c.val + (s.val + 1) + 7))) (outV m (hi (c.val + (s.val + 1) + 7)))
  rw [hi_congr (i := (nxt c).val + s.val + 7) (j := c.val + (s.val + 1) + 7) (by show ((c.val + 1) % 8 + s.val + 7) % 8 = _; omega),
    hi_congr (i := c.val + s.val) (j := c.val + (s.val + 1) + 7) (by omega)]

theorem ag_step (c : Dev nD) (s : Fin 7) {nR nL : Dev nD} (hR : nR = nxt c) (hL : nL = prv c) (Q : PUnit → sProp 𝕄) :
    iprop(records m K ∗ owed c (remT c (7 + s.val)) ∗ agAt m 2 s.val c ∗ agAt m 3 s.val c
        ∗ ((owed c (remT c (7 + s.val + 1)) ∗ agAt m 2 (s.val + 1) c ∗ agAt m 3 (s.val + 1) c) -∗ Q ⟨⟩))
      ⊢ wpB c (agXfer c s nR nL) Q := by
  have hs := s.isLt
  have eu (ch : Fin 4) := upto_succ (fun i : Fin 8 => own c (rowM (rowIx ch i.val c)) (outV m (rowIx ch i.val c))) ⟨s.val, by omega⟩
  have ev (ch : Fin 4) := upto_succ (fun i : Fin 8 => own c (rowM (rowIx ch i.val c)) (outV m (rowIx ch i.val c))) ⟨s.val + 1, by omega⟩
  simp only [] at eu ev
  unfold agAt
  rw [ev, ev, eu, eu, from_step (fare 2 c) s, from_step (fare 3 c) s, upto_succ, upto_succ]
  unfold fare
  iintro ⟨#HR, HO, ⟨⟨Hs0, Hh0⟩, Hp0, Hq0, ⟨⟨Ht0, Hd0⟩, Hr0⟩, Hu0⟩, ⟨⟨Hs1, Hh1⟩, Hp1, Hq1, ⟨⟨Ht1, Hd1⟩, Hr1⟩, Hu1⟩, Hk⟩
  iapply (wp_agXfer m K c s hR hL)
  isplitr; · iexact HR
  isplitl [HO]; · iexact HO
  isplitl [Hs0 Hd0 Ht0 Hp0]
  · unfold ready; rw [src_ag2]
    isplitl [Hs0]; · iexact Hs0
    isplitl [Hd0]; · iexact Hd0
    isplitl [Ht0] <;> iassumption
  isplitl [Hs1 Hd1 Ht1 Hp1]
  · unfold ready; rw [src_ag3]
    isplitl [Hs1]; · iexact Hs1
    isplitl [Hd1]; · iexact Hd1
    isplitl [Ht1] <;> iassumption
  iintro ⟨HO, Hx0, Hx1⟩
  unfold passed arrived
  rw [src_ag2, src_ag3, arr_ag2, arr_ag3]
  icases Hx0 with ⟨Hs0, ⟨Hz0, Ha0⟩, Hp0⟩
  icases Hx1 with ⟨Hs1, ⟨Hz1, Ha1⟩, Hp1⟩
  iapply Hk
  isplitl [HO]; · iexact HO
  isplitl [Hs0 Hh0 Hq0 Hp0 Hr0 Ha0 Hu0 Hz0]
  · isplitl [Ha0 Hs0 Hh0]
    · isplitl [Ha0]; · iexact Ha0
      isplitl [Hs0] <;> iassumption
    isplitl [Hq0]; · iexact Hq0
    isplitl [Hp0]; · iexact Hp0
    isplitl [Hr0]; · iexact Hr0
    isplitl [Hz0] <;> iassumption
  · isplitl [Ha1 Hs1 Hh1]
    · isplitl [Ha1]; · iexact Ha1
      isplitl [Hs1] <;> iassumption
    isplitl [Hq1]; · iexact Hq1
    isplitl [Hp1]; · iexact Hp1
    isplitl [Hr1]; · iexact Hr1
    isplitl [Hz1] <;> iassumption

/-! ## The whole -/

/-- What a channel has at the start of the launch: the places on its two send semaphores and its seven tickets. -/
def chanIn (ch : Fin 4) (c : Dev nD) : sProp 𝕄 :=
  iprop(sendAt (F := F) ch 0 c ∗ sendAt (F := F) ch 1 c ∗ bigSep Finset.univ fun s => ticket (F := F) ch s c)

/-- With the target's places to land in, the tickets are fares. -/
theorem fare_intro (ch : Fin 4) (c : Dev nD) :
    iprop((bigSep Finset.univ fun s => ticket (F := F) ch s c) ∗ landing (F := F) ch (tgt ch c)) ⊢ from' (fare (F := F) ch c) 0 := by
  rw [from_zero]; unfold fare landing; rw [← bigSep_sep']

theorem upto_nil {n : ℕ} (P : Fin n → sProp 𝕄) : (iprop(emp) : sProp 𝕄) ⊢ upto P 0 := Entails.of_eq (upto_zero P).symm

/-- A reduce-scatter channel is ready for its first step, -/
theorem rs_begin (ch : Fin 4) (c : Dev nD) :
    iprop(own c (srcM ch 0 c) (sendV m ch 0 c) ∗ some' (F := F) c (slotM ch 1) ∗ sendAt ch 0 c ∗ sendAt ch 1 c
        ∗ (bigSep Finset.univ fun s => ticket (F := F) ch s c) ∗ landing (F := F) ch (tgt ch c)) ⊢ rsIn m ch 0 c := by
  unfold rsIn
  iintro ⟨H1, H2, H3, H4, H5⟩
  isplitl [H1]; · iexact H1
  isplitl [H2]; · iexact H2
  isplitl [H3]; · iexact H3
  isplitl [H4]; · iexact H4
  isplitl [H5]
  · iapply (fare_intro ch c); iexact H5
  iapply (upto_nil fun i => arrived m ch i c)
  iempintro

/-- and an all-gather channel, once the device has finished its own chunk. -/
theorem ag_begin (ch : Fin 4) (c : Dev nD) :
    iprop(own c (rowM (rowIx ch 0 c)) (outV m (rowIx ch 0 c)) ∗ sendAt ch 0 c ∗ sendAt ch 1 c
        ∗ (bigSep Finset.univ fun s => ticket (F := F) ch s c) ∗ landing (F := F) ch (tgt ch c)) ⊢ agAt m ch 0 c := by
  have eu := upto_succ (fun i : Fin 8 => own c (rowM (rowIx ch i.val c)) (outV m (rowIx ch i.val c))) 0
  unfold agAt
  rw [show (0 + 1 : ℕ) = (0 : Fin 8).val + 1 from rfl, eu]
  iintro ⟨H1, H3, H4, H5⟩
  isplitl [H1]
  · isplitl [H1]; · iexact H1
    iapply (upto_nil fun i : Fin 8 => own c (rowM (rowIx ch i.val c)) (outV m (rowIx ch i.val c)))
    iempintro
  isplitl [H3]; · iexact H3
  isplitl [H4]; · iexact H4
  isplitl [H5]
  · iapply (fare_intro ch c); iexact H5
  iapply (upto_nil fun i : Fin 7 => (semVal (recvCell c ch i) 0 : sProp 𝕄))
  iempintro

/-- What the body takes: the handshake's needs, the three inputs, the four send slots, the two row chunks the device
    computes, and the channels' positions and tickets. -/
def bodyIn (c : Dev nD) : sProp 𝕄 :=
  iprop(shakePre (F := F) c ∗ (xPts m c ∗ resPts m c ∗ gamPts m c)
    ∗ (some' (F := F) c (slotM 0 0) ∗ some' (F := F) c (slotM 0 1) ∗ some' (F := F) c (slotM 1 0) ∗ some' (F := F) c (slotM 1 1))
    ∗ (some' (F := F) c (rowM (lo (c.val + 1))) ∗ some' (F := F) c (rowM (hi (c.val + 7))))
    ∗ chanIn (F := F) 0 c ∗ chanIn (F := F) 1 c ∗ chanIn (F := F) 2 c ∗ chanIn (F := F) 3 c)

/-- What it leaves: nothing owed, the barrier at zero, the inputs as they were, the reduce-scatter's slots, and all
    sixteen finished chunks. -/
def bodyOut (c : Dev nD) : sProp 𝕄 :=
  iprop(owed (F := F) c 0 ∗ semVal (barCell c) 0 ∗ (xPts m c ∗ resPts m c ∗ gamPts m c)
    ∗ rsOut m 0 6 c ∗ rsOut m 1 6 c ∗ agAt m 2 7 c ∗ agAt m 3 7 c)

/-- The device between two steps of the reduce-scatter -/
def rsState (s : Fin 7) (c : Dev nD) : sProp 𝕄 := iprop(owed (F := F) c (remT c s.val) ∗ xPts m c ∗ rsIn m 0 s c ∗ rsIn m 1 s c)
/-- and of the all-gather. -/
def agState (k : ℕ) (c : Dev nD) : sProp 𝕄 := iprop(owed (F := F) c (remT c (7 + k)) ∗ agAt m 2 k c ∗ agAt m 3 k c)

/-- One round of the reduce-scatter: the transfers of a step, and the sums that feed the next. -/
theorem rs_round (c : Dev nD) (r : Fin 6) {s : Fin 7} (hs : s = r.castSucc) {nR nL : Dev nD} (hR : nR = nxt c) (hL : nL = prv c)
    {p : Prog (TpuEff nD τ sig (Elt F) Λ₀ .tc) PUnit} {X : sProp 𝕄} {Q : PUnit → sProp 𝕄}
    (h : iprop(records m K ∗ rsState m r.succ c ∗ X) ⊢ wpB c p Q) :
    iprop(records m K ∗ rsState m s c ∗ X) ⊢ wpB c (rsXfer s nR nL >>= fun _ => rsAdd c r >>= fun _ => p) Q := by
  subst hs
  unfold rsState at h ⊢
  iintro ⟨#HR, ⟨HO, Hx, H0, H1⟩, HX⟩
  rw [wpB_bind]
  iapply (rs_step m K c r.castSucc hR hL)
  isplitr; · iexact HR
  isplitl [HO]; · iexact HO
  isplitl [H0]; · iexact H0
  isplitl [H1]; · iexact H1
  iintro ⟨HO, H0, H1⟩
  rw [wpB_bind]
  iapply (wp_rsAdd m c r)
  isplitl [Hx]; · iexact Hx
  isplitl [H0]; · iexact H0
  isplitl [H1]; · iexact H1
  iintro ⟨Hx, H0, H1⟩
  iapply h
  isplitr; · iexact HR
  isplitl [HO Hx H0 H1]
  · isplitl [HO]; · iexact HO
    isplitl [Hx]; · iexact Hx
    isplitl [H0] <;> iassumption
  iexact HX

/-- One round of the all-gather. -/
theorem ag_round (c : Dev nD) (s : Fin 7) {k k' : ℕ} (hk : k = s.val) (hk' : k' = s.val + 1) {nR nL : Dev nD} (hR : nR = nxt c) (hL : nL = prv c)
    {p : Prog (TpuEff nD τ sig (Elt F) Λ₀ .tc) PUnit} {X : sProp 𝕄} {Q : PUnit → sProp 𝕄}
    (h : iprop(records m K ∗ agState m k' c ∗ X) ⊢ wpB c p Q) :
    iprop(records m K ∗ agState m k c ∗ X) ⊢ wpB c (agXfer c s nR nL >>= fun _ => p) Q := by
  subst hk hk'
  unfold agState at h ⊢
  iintro ⟨#HR, ⟨HO, H0, H1⟩, HX⟩
  rw [wpB_bind]
  iapply (ag_step m K c s hR hL)
  isplitr; · iexact HR
  isplitl [HO]; · iexact HO
  isplitl [H0]; · iexact H0
  isplitl [H1]; · iexact H1
  iintro ⟨HO, H0, H1⟩
  iapply h
  isplitr; · iexact HR
  isplitl [HO H0 H1]
  · isplitl [HO]; · iexact HO
    isplitl [H0] <;> iassumption
  iexact HX

theorem lo_nine (c : Dev nD) : rowIx 2 0 c = lo (c.val + 1) := lo_congr (by show (c.val + 9 - 0) % 8 = (c.val + 1) % 8; omega)
theorem hi_seven (c : Dev nD) : rowIx 3 0 c = hi (c.val + 7) := hi_congr (by show (c.val + 0 + 7) % 8 = (c.val + 7) % 8; omega)

/-- The end of the reduce-scatter: its last transfers and the normalisation, which start the all-gather. -/
def mid (c : Dev nD) : sProp 𝕄 :=
  iprop((resPts m c ∗ gamPts m c) ∗ (some' (F := F) c (rowM (lo (c.val + 1))) ∗ some' (F := F) c (rowM (hi (c.val + 7))))
    ∗ (chanIn (F := F) 2 c ∗ chanIn (F := F) 3 c) ∗ (landing (F := F) 2 (tgt 2 c) ∗ landing (F := F) 3 (tgt 3 c)) ∗ semVal (barCell c) 0)
/-- What is done with by then. -/
def done (c : Dev nD) : sProp 𝕄 :=
  iprop((xPts m c ∗ resPts m c ∗ gamPts m c) ∗ (rsOut m 0 6 c ∗ rsOut m 1 6 c) ∗ semVal (barCell c) 0)

/-- The handshake and the first slots start the reduce-scatter. -/
theorem wp_head (c : Dev nD) {nL nR : Dev nD} (hL : nL = prv c) (hR : nR = nxt c) {p : Prog (TpuEff nD τ sig (Elt F) Λ₀ .tc) PUnit} {X : sProp 𝕄}
    {Q : PUnit → sProp 𝕄} (h : iprop(records m K ∗ rsState m 0 c ∗ mid m c ∗ X) ⊢ wpB c p Q) :
    iprop(records m K ∗ bodyIn m c ∗ X) ⊢ wpB c (shake nL nR >>= fun _ => rsInit c >>= fun _ => p) Q := by
  unfold mid chanIn rsState at h
  unfold bodyIn chanIn
  iintro ⟨#HR, ⟨Hsh, ⟨Hx, Hres, Hg⟩, ⟨S00, S01, S10, S11⟩, Ho, ⟨A0, A0', T0⟩, ⟨A1, A1', T1⟩, A2, A3⟩, HX⟩
  rw [wpB_bind]
  iapply (wp_shake m K c hL hR)
  isplitr; · iexact HR
  isplitl [Hsh]; · iexact Hsh
  unfold shakePost
  iintro ⟨HO, Hz, L0, L1, L2, L3⟩
  rw [wpB_bind]
  iapply (wp_rsInit m c)
  isplitl [Hx]; · iexact Hx
  isplitl [S00]; · iexact S00
  isplitl [S10]; · iexact S10
  iintro ⟨Hx, S00, S10⟩
  iapply h
  isplitr; · iexact HR
  isplitl [HO Hx S00 S01 A0 A0' T0 L0 S10 S11 A1 A1' T1 L1]
  · isplitl [HO]; · iexact HO
    isplitl [Hx]; · iexact Hx
    isplitl [S00 S01 A0 A0' T0 L0]
    · iapply (rs_begin m 0 c)
      isplitl [S00]; · iexact S00
      isplitl [S01]; · iexact S01
      isplitl [A0]; · iexact A0
      isplitl [A0']; · iexact A0'
      isplitl [T0] <;> iassumption
    · iapply (rs_begin m 1 c)
      isplitl [S10]; · iexact S10
      isplitl [S11]; · iexact S11
      isplitl [A1]; · iexact A1
      isplitl [A1']; · iexact A1'
      isplitl [T1] <;> iassumption
  isplitr [HX]
  · isplitl [Hres Hg]
    · isplitl [Hres] <;> iassumption
    isplitl [Ho]; · iexact Ho
    isplitl [A2 A3]
    · isplitl [A2] <;> iassumption
    isplitl [L2 L3]
    · isplitl [L2] <;> iassumption
    iexact Hz
  iexact HX

/-- The last reduce-scatter transfers and the normalisation start the all-gather. -/
theorem wp_turn (c : Dev nD) {nL nR : Dev nD} (hR : nR = nxt c) (hL : nL = prv c) {p : Prog (TpuEff nD τ sig (Elt F) Λ₀ .tc) PUnit} {X : sProp 𝕄}
    {Q : PUnit → sProp 𝕄} (h : iprop(records m K ∗ agState m 0 c ∗ done m c ∗ X) ⊢ wpB c p Q) :
    iprop(records m K ∗ rsState m 6 c ∗ mid m c ∗ X) ⊢ wpB c (rsXfer 6 nR nL >>= fun _ => norm c >>= fun _ => p) Q := by
  unfold done agState at h
  unfold rsState mid chanIn
  iintro ⟨#HR, ⟨HO, Hx, H0, H1⟩, ⟨⟨Hres, Hg⟩, ⟨Ho0, Ho1⟩, ⟨⟨A2, A2', T2⟩, A3, A3', T3⟩, ⟨L2, L3⟩, Hz⟩, HX⟩
  rw [wpB_bind]
  iapply (rs_step m K c 6 hR hL)
  isplitr; · iexact HR
  isplitl [HO]; · iexact HO
  isplitl [H0]; · iexact H0
  isplitl [H1]; · iexact H1
  iintro ⟨HO, H0, H1⟩
  rw [wpB_bind]
  iapply (wp_norm m c)
  isplitl [Hx]; · iexact Hx
  isplitl [Hres]; · iexact Hres
  isplitl [Hg]; · iexact Hg
  isplitl [H0]; · iexact H0
  isplitl [H1]; · iexact H1
  isplitl [Ho0]; · iexact Ho0
  isplitl [Ho1]; · iexact Ho1
  rw [← lo_nine, ← hi_seven]
  iintro ⟨Hx, Hres, Hg, H0, H1, Ho0, Ho1⟩
  iapply h
  isplitr; · iexact HR
  isplitl [HO Ho0 A2 A2' T2 L2 Ho1 A3 A3' T3 L3]
  · isplitl [HO]; · iexact HO
    isplitl [Ho0 A2 A2' T2 L2]
    · iapply (ag_begin m 2 c)
      isplitl [Ho0]; · iexact Ho0
      isplitl [A2]; · iexact A2
      isplitl [A2']; · iexact A2'
      isplitl [T2] <;> iassumption
    · iapply (ag_begin m 3 c)
      isplitl [Ho1]; · iexact Ho1
      isplitl [A3]; · iexact A3
      isplitl [A3']; · iexact A3'
      isplitl [T3] <;> iassumption
  isplitr [HX]
  · isplitl [Hx Hres Hg]
    · isplitl [Hx]; · iexact Hx
      isplitl [Hres] <;> iassumption
    isplitl [H0 H1]
    · isplitl [H0] <;> iassumption
    iexact Hz
  iexact HX

/-- The body, from what it takes to what it leaves. -/
theorem wp_steps (c : Dev nD) (Q : PUnit → sProp 𝕄) :
    iprop(records m K ∗ bodyIn m c ∗ (bodyOut m c -∗ Q ⟨⟩)) ⊢ wpB c (steps c) Q := by
  refine wp_head m K c (dev_eq _ (k0_dev1_eq c)) (dev_eq _ (k0_dev2_eq c)) ?_
  refine rs_round m K c 0 rfl (dev_eq _ (k0_dev3_eq c)) (dev_eq _ (k0_dev4_eq c)) ?_
  refine rs_round m K c 1 rfl (dev_eq _ (k0_dev5_eq c)) (dev_eq _ (k0_dev6_eq c)) ?_
  refine rs_round m K c 2 rfl (dev_eq _ (k0_dev7_eq c)) (dev_eq _ (k0_dev8_eq c)) ?_
  refine rs_round m K c 3 rfl (dev_eq _ (k0_dev9_eq c)) (dev_eq _ (k0_dev10_eq c)) ?_
  refine rs_round m K c 4 rfl (dev_eq _ (k0_dev11_eq c)) (dev_eq _ (k0_dev12_eq c)) ?_
  refine rs_round m K c 5 rfl (dev_eq _ (k0_dev13_eq c)) (dev_eq _ (k0_dev14_eq c)) ?_
  refine wp_turn m K c (dev_eq _ (k0_dev15_eq c)) (dev_eq _ (k0_dev16_eq c)) ?_
  refine ag_round m K c 0 rfl rfl (dev_eq _ (k0_dev17_eq c)) (dev_eq _ (k0_dev18_eq c)) ?_
  refine ag_round m K c 1 rfl rfl (dev_eq _ (k0_dev19_eq c)) (dev_eq _ (k0_dev20_eq c)) ?_
  refine ag_round m K c 2 rfl rfl (dev_eq _ (k0_dev21_eq c)) (dev_eq _ (k0_dev22_eq c)) ?_
  refine ag_round m K c 3 rfl rfl (dev_eq _ (k0_dev23_eq c)) (dev_eq _ (k0_dev24_eq c)) ?_
  refine ag_round m K c 4 rfl rfl (dev_eq _ (k0_dev25_eq c)) (dev_eq _ (k0_dev26_eq c)) ?_
  refine ag_round m K c 5 rfl rfl (dev_eq _ (k0_dev27_eq c)) (dev_eq _ (k0_dev28_eq c)) ?_
  unfold agState done
  iintro ⟨#HR, ⟨HO, G2, G3⟩, ⟨Hin, ⟨H0, H1⟩, Hz⟩, Hk⟩
  iapply (ag_step m K c 6 (dev_eq _ (k0_dev29_eq c)) (dev_eq _ (k0_dev30_eq c)))
  isplitr; · iexact HR
  isplitl [HO]; · iexact HO
  isplitl [G2]; · iexact G2
  isplitl [G3]; · iexact G3
  iintro ⟨HO, G2, G3⟩
  iapply Hk
  unfold bodyOut
  isplitl [HO]; · iexact HO
  isplitl [Hz]; · iexact Hz
  isplitl [Hin]; · iexact Hin
  isplitl [H0]; · iexact H0
  isplitl [H1]; · iexact H1
  isplitl [G2]; · iexact G2
  iexact G3

end Cert.KernelIdealProof

end
-- ==== Proof.KernelIdealParts.lean ====
/-
# Buffers in parts

The scratch buffers as their slots, the result's staging buffer as its sixteen chunks of rows, and a device's semaphores
as the channels'; then the body with its buffers whole and its semaphores all closed (`wp_whole`).
-/
module

public import proofs.«01_k».proof.Proof.KernelIdealChain
public import Idealize.ShloMosaic.Lib.Ring
public import Idealize.ShloMosaic.Lib.Pointwise.Index

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 37 → ℕ)

/-! ## Families reindexed -/

/-- A product over a finite type is the product over another that it is counted by. -/
theorem bigSep_along {α β : Type} [Fintype α] [Fintype β] (f : α → β) (hf : Function.Injective f) (hc : Fintype.card α = Fintype.card β)
    (Φ : β → sProp 𝕄) : bigSep Finset.univ Φ = bigSep Finset.univ fun a => Φ (f a) :=
  bigSep_univ_equiv (Equiv.ofBijective f ((Fintype.bijective_iff_injective_and_card f).mpr ⟨hf, hc⟩)) Φ

theorem bigSep_two (Φ : Fin 2 → sProp 𝕄) : bigSep Finset.univ Φ = iprop(Φ 0 ∗ Φ 1) :=
  bigSep_univ_eq_bigSepL [0, 1] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_head {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp), bigSep_map]; rfl
theorem bigSep_last {n : ℕ} (Φ : Fin (n + 1) → sProp 𝕄) :
    bigSep Finset.univ Φ = iprop(Φ (Fin.last n) ∗ bigSep Finset.univ fun k : Fin n => Φ k.castSucc) := by
  rw [Fin.univ_castSuccEmb, Finset.cons_eq_insert, bigSep_insert (by simp), bigSep_map]; rfl

/-- The transfer semaphores counted by channel: two for sends, seven for arrivals. -/
def byChan (x : Fin 4 × (Fin 2 ⊕ Fin 7)) : Fin 37 := match x.2 with
  | .inl p => iS x.1 p.val
  | .inr s => iR x.1 s
theorem byChan_inj : Function.Injective (fun x => (⟨(byChan x).val % 36, Nat.mod_lt _ (by decide)⟩ : Fin 36)) := by decide
theorem byChan_val (x : Fin 4 × (Fin 2 ⊕ Fin 7)) : (⟨(byChan x).val % 36, Nat.mod_lt _ (by decide)⟩ : Fin 36).castSucc = byChan x := by
  revert x; decide

theorem bigSep_chan (Φ : Fin 37 → sProp 𝕄) :
    (bigSep Finset.univ fun k : Fin 36 => Φ k.castSucc)
      = bigSep Finset.univ fun ch : Fin 4 => iprop((Φ (iS ch 0) ∗ Φ (iS ch 1)) ∗ bigSep Finset.univ fun s : Fin 7 => Φ (iR ch s)) := by
  rw [bigSep_along _ byChan_inj (by decide) (fun k : Fin 36 => Φ k.castSucc), bigSep_univ_prod]
  refine bigSep_congr fun ch _ => ?_
  rw [bigSep_univ_sum, bigSep_two]
  simp only [byChan_val]
  rfl

/-- The sixteen chunks counted from device `c`'s own two, around the ring. -/
def byRing (c : Dev nD) (x : Fin 8 ⊕ Fin 8) : Fin 16 := match x with
  | .inl k => rowIx 2 k.val c
  | .inr k => rowIx 3 k.val c
theorem byRing_inj (c : Dev nD) : Function.Injective (byRing c) := by revert c; decide

theorem bigSep_rows (c : Dev nD) (Φ : Fin 16 → sProp 𝕄) :
    bigSep Finset.univ Φ = iprop((bigSep Finset.univ fun k : Fin 8 => Φ (rowIx 2 k.val c)) ∗ bigSep Finset.univ fun k : Fin 8 => Φ (rowIx 3 k.val c)) := by
  rw [bigSep_along (byRing c) (byRing_inj c) (by decide), bigSep_univ_sum]; rfl

/-! ## Slots -/

theorem some_in (c : Dev nD) (M : Memref sig .tc .vmem S128x2048 .bf16) :
    iprop(∃ f : Buf (Elt F) (M.view.loc (c : Thread nD τ)), (M.view.loc (c : Thread nD τ)) ↦[M.view.set]{fullShare} f) ⊢ some' (F := F) c M := by
  iintro ⟨%f, H⟩
  iexists _
  iapply (owns_intro (c : Thread nD τ) M fullShare f); iexact H
theorem some_out (c : Dev nD) (M : Memref sig .tc .vmem S128x2048 .bf16) :
    some' (F := F) c M ⊢ iprop(∃ f : Buf (Elt F) (M.view.loc (c : Thread nD τ)), (M.view.loc (c : Thread nD τ)) ↦[M.view.set]{fullShare} f) := by
  unfold some' own owns
  iintro ⟨%X, %f, -, H⟩
  iexists f; iexact H

/-- The elements of a slot are those with its number in front. -/
theorem mem_slot7 (s : ℕ) (h : s < 7) (y : S7x128x2048.Idx) : y ∈ (slot7 s h).set ↔ (y 0).val = s := by
  have h1 : (y 1).val < 128 := (y 1).isLt
  have h2 : (y 2).val < 2048 := (y 2).isLt
  rw [Rect.mem_set_unit]
  refine ⟨fun hy => ?_, fun hy a => ?_⟩
  · have := hy 0
    have h3 : s ≤ (y 0).val ∧ (y 0).val < s + 1 := this
    omega
  · fin_cases a
    · show s ≤ (y 0).val ∧ (y 0).val < s + 1; omega
    · show 0 ≤ (y 1).val ∧ (y 1).val < 0 + 128; omega
    · show 0 ≤ (y 2).val ∧ (y 2).val < 0 + 2048; omega
theorem mem_slot2 (s : ℕ) (h : s < 2) (y : S2x128x2048.Idx) : y ∈ (slot2 s h).set ↔ (y 0).val = s := by
  have h1 : (y 1).val < 128 := (y 1).isLt
  have h2 : (y 2).val < 2048 := (y 2).isLt
  rw [Rect.mem_set_unit]
  refine ⟨fun hy => ?_, fun hy a => ?_⟩
  · have := hy 0
    have h3 : s ≤ (y 0).val ∧ (y 0).val < s + 1 := this
    omega
  · fin_cases a
    · show s ≤ (y 0).val ∧ (y 0).val < s + 1; omega
    · show 0 ≤ (y 1).val ∧ (y 1).val < 0 + 128; omega
    · show 0 ≤ (y 2).val ∧ (y 2).val < 0 + 2048; omega
abbrev rowRect (i : Fin 16) : Rect S2048x2048 := Rect.unit (s := S2048x2048) ![128 * i.val, 0] S128x2048.size (inbRow i)
theorem mem_rows (i : Fin 16) (y : S2048x2048.Idx) : y ∈ (rowRect i).set ↔ (y 0).val / 128 = i.val := by
  have h2 : (y 1).val < 2048 := (y 1).isLt
  rw [Rect.mem_set_unit]
  refine ⟨fun hy => ?_, fun hy a => ?_⟩
  · have := hy 0
    have h3 : 128 * i.val ≤ (y 0).val ∧ (y 0).val < 128 * i.val + 128 := this
    omega
  · fin_cases a
    · show 128 * i.val ≤ (y 0).val ∧ (y 0).val < 128 * i.val + 128; omega
    · show 0 ≤ (y 1).val ∧ (y 1).val < 0 + 2048; omega

/-- A family of sets told apart by a number each element has is disjoint, -/
theorem disjoint_of_num {α : Type} {n : ℕ} (I : Fin n → Finset α) (num : α → ℕ) (h : ∀ i y, y ∈ I i ↔ num y = i.val) :
    ∀ i j, i ≠ j → Disjoint (I i) (I j) := fun i j hne => Finset.disjoint_left.mpr fun y hi hj =>
  hne (Fin.ext (((h i y).mp hi).symm.trans ((h j y).mp hj)))
/-- and covers when the numbers are all in range. -/
theorem cover_of_num {α : Type} [Fintype α] [DecidableEq α] {n : ℕ} (I : Fin n → Finset α) (num : α → ℕ) (h : ∀ i y, y ∈ I i ↔ num y = i.val)
    (hn : ∀ y, num y < n) : Finset.univ.biUnion I = Finset.univ := by
  ext y
  simp only [Finset.mem_biUnion, Finset.mem_univ, true_and, iff_true]
  exact ⟨⟨num y, hn y⟩, (h _ y).mpr rfl⟩

/-- A buffer held whole is held part by part, -/
theorem parts_split {ℓ : Loc nD τ sig} {n : ℕ} (I : Fin n → Finset (Idx ℓ)) (num : Idx ℓ → ℕ) (h : ∀ i y, y ∈ I i ↔ num y = i.val)
    (hn : ∀ y, num y < n) : (iprop(∃ f : Buf (Elt F) ℓ, ℓ ↦{fullShare} f) : sProp 𝕄) ⊢ bigSep Finset.univ fun i => iprop(∃ f : Buf (Elt F) ℓ, ℓ ↦[I i]{fullShare} f) := by
  classical
  iintro ⟨%f, H⟩
  iapply ((Entails.of_eq (Ring.pointsTo_blocks I (disjoint_of_num I num h) (cover_of_num I num h hn) f)).trans
    (bigSep_mono (s := Finset.univ) fun i _ => (show (ℓ ↦[I i]{fullShare} f : sProp 𝕄) ⊢ iprop(∃ f : Buf (Elt F) ℓ, ℓ ↦[I i]{fullShare} f) from by
      iintro H; iexists f; iexact H)))
  iexact H
/-- and back. -/
theorem parts_join {ℓ : Loc nD τ sig} {n : ℕ} (I : Fin (n + 1) → Finset (Idx ℓ)) (num : Idx ℓ → ℕ) (h : ∀ i y, y ∈ I i ↔ num y = i.val)
    (hn : ∀ y, num y < n + 1) : (bigSep Finset.univ fun i => iprop(∃ f : Buf (Elt F) ℓ, ℓ ↦[I i]{fullShare} f)) ⊢ (iprop(∃ f : Buf (Elt F) ℓ, ℓ ↦{fullShare} f) : sProp 𝕄) := by
  classical
  rw [bigSep_head]
  iintro ⟨⟨%f, H0⟩, H⟩
  iapply (Ring.pointsTo_blocks_join_exists I (disjoint_of_num I num h) (cover_of_num I num h hn) f)
  irw [bigSep_head]
  isplitl [H0]
  · iexists f; iexact H0
  · iexact H

/-- A buffer of the kernel's at some contents. -/
abbrev anyBuf (c : Dev nD) (b : Ref sig .tc) : sProp 𝕄 := iprop(∃ f : Buf (Elt F) ((c : Thread nD τ).loc b), ((c : Thread nD τ).loc b) ↦{fullShare} f)

theorem set_rcvR (s : ℕ) (h : s < 7) : (mat7 rcvR s h).view.set = (slot7 s h).set := (View.set_reshape _ _).trans (View.set_slice_whole _ _)
theorem set_rcvL (s : ℕ) (h : s < 7) : (mat7 rcvL s h).view.set = (slot7 s h).set := (View.set_reshape _ _).trans (View.set_slice_whole _ _)
theorem set_sndR (p : ℕ) (h : p < 2) : (mat2 sndR p h).view.set = (slot2 p h).set := (View.set_reshape _ _).trans (View.set_slice_whole _ _)
theorem set_sndL (p : ℕ) (h : p < 2) : (mat2 sndL p h).view.set = (slot2 p h).set := (View.set_reshape _ _).trans (View.set_slice_whole _ _)
theorem set_row (i : Fin 16) : (rowM i).view.set = (rowRect i).set := View.set_slice_whole _ _

/-- The slots' element sets, by the slot's number, and the rows' by the chunk's. -/
abbrev I7 (s : Fin 7) : Finset S7x128x2048.Idx := (slot7 s.val s.isLt).set
abbrev I2 (p : Fin 2) : Finset S2x128x2048.Idx := (slot2 p.val p.isLt).set
abbrev I16 (i : Fin 16) : Finset S2048x2048.Idx := (rowRect i).set
def num7 (y : S7x128x2048.Idx) : ℕ := (y 0).val
def num2 (y : S2x128x2048.Idx) : ℕ := (y 0).val
def num16 (y : S2048x2048.Idx) : ℕ := (y 0).val / 128
theorem num7_lt (y : S7x128x2048.Idx) : num7 y < 7 := (y 0).isLt
theorem num2_lt (y : S2x128x2048.Idx) : num2 y < 2 := (y 0).isLt
theorem num16_lt (y : S2048x2048.Idx) : num16 y < 16 := Nat.div_lt_of_lt_mul (show (y 0).val < 128 * 16 from (y 0).isLt)

theorem rcvR_split (c : Dev nD) : anyBuf (F := F) c cc0_scratch1 ⊢ landing (F := F) 0 c :=
  (parts_split (ℓ := (c : Thread nD τ).loc cc0_scratch1) I7 num7 (fun s y => mem_slot7 s.val s.isLt y) num7_lt).trans
    (bigSep_mono fun s _ => (Entails.of_eq (by rw [I7, ← set_rcvR])).trans (some_in c (mat7 rcvR s.val s.isLt)))
theorem rcvR_join (c : Dev nD) : landing (F := F) 0 c ⊢ anyBuf (F := F) c cc0_scratch1 :=
  (bigSep_mono fun s _ => (some_out c (mat7 rcvR s.val s.isLt)).trans (Entails.of_eq (by rw [set_rcvR]))).trans
    (parts_join (ℓ := (c : Thread nD τ).loc cc0_scratch1) I7 num7 (fun s y => mem_slot7 s.val s.isLt y) num7_lt)
theorem rcvL_split (c : Dev nD) : anyBuf (F := F) c cc0_scratch3 ⊢ landing (F := F) 1 c :=
  (parts_split (ℓ := (c : Thread nD τ).loc cc0_scratch3) I7 num7 (fun s y => mem_slot7 s.val s.isLt y) num7_lt).trans
    (bigSep_mono fun s _ => (Entails.of_eq (by rw [I7, ← set_rcvL])).trans (some_in c (mat7 rcvL s.val s.isLt)))
theorem rcvL_join (c : Dev nD) : landing (F := F) 1 c ⊢ anyBuf (F := F) c cc0_scratch3 :=
  (bigSep_mono fun s _ => (some_out c (mat7 rcvL s.val s.isLt)).trans (Entails.of_eq (by rw [set_rcvL]))).trans
    (parts_join (ℓ := (c : Thread nD τ).loc cc0_scratch3) I7 num7 (fun s y => mem_slot7 s.val s.isLt y) num7_lt)
theorem sndR_split (c : Dev nD) : anyBuf (F := F) c cc0_scratch0 ⊢ iprop(some' (F := F) c (slotM 0 0) ∗ some' (F := F) c (slotM 0 1)) :=
  (parts_split (ℓ := (c : Thread nD τ).loc cc0_scratch0) I2 num2 (fun s y => mem_slot2 s.val s.isLt y) num2_lt).trans
    ((bigSep_mono fun p _ => (Entails.of_eq (by rw [I2, ← set_sndR])).trans (some_in c (mat2 sndR p.val p.isLt))).trans (Entails.of_eq (bigSep_two _)))
theorem sndR_join (c : Dev nD) : iprop(some' (F := F) c (slotM 0 0) ∗ some' (F := F) c (slotM 0 1)) ⊢ anyBuf (F := F) c cc0_scratch0 :=
  (Entails.of_eq (bigSep_two fun p : Fin 2 => some' (F := F) c (mat2 sndR p.val p.isLt)).symm).trans
    ((bigSep_mono fun p _ => (some_out c (mat2 sndR p.val p.isLt)).trans (Entails.of_eq (by rw [set_sndR]))).trans
      (parts_join (ℓ := (c : Thread nD τ).loc cc0_scratch0) I2 num2 (fun s y => mem_slot2 s.val s.isLt y) num2_lt))
theorem sndL_split (c : Dev nD) : anyBuf (F := F) c cc0_scratch2 ⊢ iprop(some' (F := F) c (slotM 1 0) ∗ some' (F := F) c (slotM 1 1)) :=
  (parts_split (ℓ := (c : Thread nD τ).loc cc0_scratch2) I2 num2 (fun s y => mem_slot2 s.val s.isLt y) num2_lt).trans
    ((bigSep_mono fun p _ => (Entails.of_eq (by rw [I2, ← set_sndL])).trans (some_in c (mat2 sndL p.val p.isLt))).trans (Entails.of_eq (bigSep_two _)))
theorem sndL_join (c : Dev nD) : iprop(some' (F := F) c (slotM 1 0) ∗ some' (F := F) c (slotM 1 1)) ⊢ anyBuf (F := F) c cc0_scratch2 :=
  (Entails.of_eq (bigSep_two fun p : Fin 2 => some' (F := F) c (mat2 sndL p.val p.isLt)).symm).trans
    ((bigSep_mono fun p _ => (some_out c (mat2 sndL p.val p.isLt)).trans (Entails.of_eq (by rw [set_sndL]))).trans
      (parts_join (ℓ := (c : Thread nD τ).loc cc0_scratch2) I2 num2 (fun s y => mem_slot2 s.val s.isLt y) num2_lt))

/-! ## The rows of the result -/

set_option backward.proofsInPublic true in
/-- The whole result: the sixteen finished chunks one under another. -/
def outG : (cc0_stg3_0 : Ref sig .tc).ty.Contents (Elt F) := fun y : S2048x2048.Idx =>
  outV m (⟨(y 0).val / 128, Nat.div_lt_of_lt_mul (show (y 0).val < 128 * 16 from (y 0).isLt)⟩ : Fin 16)
    (ix2 (n0 := 128) (n1 := 2048) ⟨(y 0).val % 128, Nat.mod_lt _ (by decide)⟩ (y 1))

theorem read_outG (i : Fin 16) : (rowM i).view.read (Elt F) (outG m) = outV m i := by
  funext j
  have hj : (j 0).val < 128 := (j 0).isLt
  have e0 : (((rowRect i).emb j) 0).val = 128 * i.val + (j 0).val := by
    show 128 * i.val + 1 * (j 0).val = _; omega
  have e1 : ((rowRect i).emb j) 1 = j 1 := Fin.ext (by show 0 + 1 * (j 1).val = (j 1).val; omega)
  show outG m ((rowRect i).emb j) = _
  unfold outG
  have h1 : (⟨(((rowRect i).emb j) 0).val / 128, Nat.div_lt_of_lt_mul (show (((rowRect i).emb j) 0).val < 128 * 16 from (((rowRect i).emb j) 0).isLt)⟩ : Fin 16) = i :=
    Fin.ext (by show (((rowRect i).emb j) 0).val / 128 = i.val; rw [e0]; omega)
  have h2 : (ix2 (n0 := 128) (n1 := 2048) ⟨(((rowRect i).emb j) 0).val % 128, Nat.mod_lt _ (by decide)⟩ (((rowRect i).emb j) 1) : S128x2048.Idx) = j := by
    rw [e1]
    refine (congrArg (fun a => ix2 (n0 := 128) (n1 := 2048) a (j 1)) (Fin.ext ?_)).trans (ix2_eta j)
    show (((rowRect i).emb j) 0).val % 128 = (j 0).val
    rw [e0]; omega
  rw [h1, h2]

/-- A finished chunk is those rows of the result. -/
theorem own_row (c : Dev nD) (i : Fin 16) :
    own c (rowM i) (outV m i) ⊢ ((c : Thread nD τ).loc cc0_stg3_0 ↦[(rowRect i).set]{fullShare} outG m : sProp 𝕄) := by
  unfold own owns
  rw [← set_row]
  iintro ⟨%f, %hf, H⟩
  iapply (Entails.of_eq (pointsTo_congr (ℓ := (c : Thread nD τ).loc cc0_stg3_0) (I := (rowM i).view.set) (f := f) (g := outG m) (q := fullShare) (by
    intro y hy
    obtain ⟨j, -, rfl⟩ := Finset.mem_map.mp hy
    have h := congrFun (hf.trans (read_outG m i).symm) j
    exact h)))
  iexact H

theorem rows_split (c : Dev nD) : anyBuf (F := F) c cc0_stg3_0 ⊢ bigSep Finset.univ fun i : Fin 16 => some' (F := F) c (rowM i) :=
  (parts_split (ℓ := (c : Thread nD τ).loc cc0_stg3_0) I16 num16 mem_rows num16_lt).trans
    (bigSep_mono fun i _ => (Entails.of_eq (by rw [I16, ← set_row])).trans (some_in c (rowM i)))
theorem rows_join (c : Dev nD) : (bigSep Finset.univ fun i : Fin 16 => own c (rowM i) (outV m i)) ⊢ (((c : Thread nD τ).loc cc0_stg3_0) ↦{fullShare} outG m : sProp 𝕄) :=
  (bigSep_mono fun i _ => own_row m c i).trans (Entails.of_eq
    (Ring.pointsTo_blocks (ℓ := (c : Thread nD τ).loc cc0_stg3_0) I16 (disjoint_of_num I16 num16 mem_rows) (cover_of_num I16 num16 mem_rows num16_lt) (outG m)).symm)

/-! ## The channels closed -/

/-- A channel's nine semaphores at zero. -/
def closed (ch : Fin 4) (c : Dev nD) : sProp 𝕄 :=
  iprop((semVal (kcell (c, iS ch 0)) 0 ∗ semVal (kcell (c, iS ch 1)) 0) ∗ bigSep Finset.univ fun s : Fin 7 => semVal (kcell (c, iR ch s)) 0)

/-- Past its last step a channel's send semaphores close. -/
theorem close_send (ch : Fin 4) (k : ℕ) (hk : 7 ≤ k) (c : Dev nD) :
    iprop(records m K ∗ sendAt (F := F) ch k c) ⊢ |={Set.univ}=> semVal (kcell (c, iS ch k)) 0 := by
  rw [kcell_send]
  unfold sendAt
  iintro ⟨#HR, Ha, -⟩
  ihave #HI := (inv_send m K c ch k) $$ HR
  iapply (Rounds.cell_close ER (ringRd m) (Set.mem_univ (K (c, iS ch k))) (fun h => h) (R := k / 2) (duties_send_later m c ch k hk))
  isplitr; · iexact HI
  iexact Ha

theorem close_chan (ch : Fin 4) (c : Dev nD) :
    iprop(records m K ∗ sendAt (F := F) ch 7 c ∗ sendAt (F := F) ch 8 c ∗ bigSep Finset.univ fun s : Fin 7 => semVal (recvCell c ch s) 0)
      ⊢ |={Set.univ}=> closed (F := F) ch c := by
  have ek : (bigSep Finset.univ fun s : Fin 7 => (semVal (kcell (c, iR ch s)) 0 : sProp 𝕄)) = bigSep Finset.univ fun s : Fin 7 => semVal (recvCell c ch s) 0 :=
    bigSep_congr fun s _ => by rw [kcell_recv]
  unfold closed
  iintro ⟨#HR, H7, H8, Hv⟩
  imod (close_send m K ch 7 (by decide) c) $$ [H7] with H7
  · isplitr; · iexact HR
    iexact H7
  imod (close_send m K ch 8 (by decide) c) $$ [H8] with H8
  · isplitr; · iexact HR
    iexact H8
  imodintro
  isplitl [H7 H8]
  · isplitl [H8]
    · iapply (show (semVal (kcell (c, iS ch 8)) 0 : sProp 𝕄) ⊢ semVal (kcell (c, iS ch 0)) 0 from Entails.refl _); iexact H8
    · iapply (show (semVal (kcell (c, iS ch 7)) 0 : sProp 𝕄) ⊢ semVal (kcell (c, iS ch 1)) 0 from Entails.refl _); iexact H7
  · irw [ek]
    iexact Hv

theorem recv_some (ch : Fin 4) (s : Fin 7) (c : Dev nD) : recvPay m ch s c ⊢ some' (F := F) c (dstM ch s c) := by
  unfold recvPay
  exact BIClass.exists_intro (Φ := fun v => own c (dstM ch s c) v) _

/-- The end of a reduce-scatter channel: its slots free and its semaphores at zero. -/
theorem rs_end (ch : Fin 4) (c : Dev nD) (hsrc : srcM ch 6 c = slotM ch 0) :
    iprop(records m K ∗ rsOut m ch 6 c)
      ⊢ |={Set.univ}=> iprop((some' (F := F) c (slotM ch 0) ∗ some' (F := F) c (slotM ch 1)) ∗ landing (F := F) ch c ∗ closed (F := F) ch c) := by
  have eu : iprop(arrived m ch 6 c ∗ upto (fun i => arrived m ch i c) (6 : Fin 7).val)
      = iprop((bigSep Finset.univ fun s : Fin 7 => semVal (recvCell c ch s) 0) ∗ bigSep Finset.univ fun s : Fin 7 => recvPay m ch s c) :=
    (upto_succ (fun i : Fin 7 => arrived m ch i c) 6).symm.trans ((upto_all _).trans (bigSep_sep' _ _ _))
  have el : (bigSep Finset.univ fun s : Fin 7 => recvPay m ch s c) ⊢ bigSep Finset.univ fun s : Fin 7 => some' (F := F) c (dstM ch s c) :=
    bigSep_mono fun s _ => recv_some m ch s c
  unfold rsOut
  rw [hsrc, eu]
  iintro ⟨#HR, Hs, Hf, H7, H8, -, Hv, Hp⟩
  imod (close_chan m K ch c) $$ [H7 H8 Hv] with Hc
  · isplitr; · iexact HR
    isplitl [H7]; · iexact H7
    isplitl [H8]; · iexact H8
    iexact Hv
  imodintro
  isplitl [Hs Hf]
  · isplitl [Hs]; · iexists _; iexact Hs
    iapply (show some' (F := F) c (slotM ch 7) ⊢ some' (F := F) c (slotM ch 1) from Entails.of_eq (by rw [slotM_add_two ch 5, slotM_add_two ch 3, slotM_add_two ch 1]))
    iexact Hf
  isplitl [Hp]
  · unfold landing
    iapply el
    iexact Hp
  iexact Hc

/-- The end of an all-gather channel: its eight finished chunks, and its semaphores at zero. -/
theorem ag_end (ch : Fin 4) (c : Dev nD) :
    iprop(records m K ∗ agAt m ch 7 c)
      ⊢ |={Set.univ}=> iprop((bigSep Finset.univ fun i : Fin 8 => own c (rowM (rowIx ch i.val c)) (outV m (rowIx ch i.val c))) ∗ closed (F := F) ch c) := by
  unfold agAt
  rw [show 7 + 1 = 8 from rfl, upto_all, upto_all]
  iintro ⟨#HR, Hh, H7, H8, -, Hv⟩
  imod (close_chan m K ch c) $$ [H7 H8 Hv] with Hc
  · isplitr; · iexact HR
    isplitl [H7]; · iexact H7
    isplitl [H8]; · iexact H8
    iexact Hv
  imodintro
  isplitl [Hh]; · iexact Hh
  iexact Hc

/-! ## The body with its buffers whole -/

/-- What the launch gives a device's body: what it owes and is owed, the positions and tokens of its protocol, -/
def ringIn (c : Dev nD) : sProp 𝕄 :=
  iprop((atPos ER (barCell c) 0 ∅ 0 ∗ cred (tallyAt (barCell c) () 2) ∗ dutyTok ER (barCell (prv c)) 0 true ∗ dutyTok ER (barCell (nxt c)) 0 false)
    ∗ chanIn (F := F) 0 c ∗ chanIn (F := F) 1 c ∗ chanIn (F := F) 2 c ∗ chanIn (F := F) 3 c)
/-- and the scratch buffers. -/
def scratch (c : Dev nD) : sProp 𝕄 :=
  iprop(anyBuf (F := F) c cc0_scratch0 ∗ anyBuf (F := F) c cc0_scratch1 ∗ anyBuf (F := F) c cc0_scratch2 ∗ anyBuf (F := F) c cc0_scratch3)

/-- All the semaphores of the ring on a device at zero. -/
def zeros (c : Dev nD) : sProp 𝕄 := iprop(semVal (barCell c) 0 ∗ bigSep Finset.univ fun k : Fin 36 => semVal (kcell (c, k.castSucc)) 0)

theorem out_split (c : Dev nD) : anyBuf (F := F) c cc0_stg3_0
    ⊢ iprop((some' (F := F) c (rowM (lo (c.val + 1))) ∗ some' (F := F) c (rowM (hi (c.val + 7)))) ∗ landing (F := F) 2 c ∗ landing (F := F) 3 c) := by
  have e2 (s : Fin 7) : rowIx 2 s.succ.val c = lo (c.val + 8 - s.val) := lo_congr (by have := s.isLt; show (c.val + 9 - (s.val + 1)) % 8 = _; omega)
  have e3 (s : Fin 7) : rowIx 3 s.succ.val c = hi (c.val + s.val) := hi_congr (by show (c.val + (s.val + 1) + 7) % 8 = _; omega)
  refine (rows_split c).trans ?_
  rw [bigSep_rows c, bigSep_head fun k : Fin 8 => some' (F := F) c (rowM (rowIx 2 k.val c)), bigSep_head fun k : Fin 8 => some' (F := F) c (rowM (rowIx 3 k.val c))]
  simp only [e2, e3]
  rw [show rowIx 2 (0 : Fin 8).val c = lo (c.val + 1) from lo_nine c, show rowIx 3 (0 : Fin 8).val c = hi (c.val + 7) from hi_seven c]
  iintro ⟨⟨H0, H2⟩, H1, H3⟩
  isplitl [H0 H1]
  · isplitl [H0]; · iexact H0
    iexact H1
  unfold landing
  isplitl [H2]; · iexact H2
  iexact H3

/-- An update after a program is part of its run. -/
theorem wpB_fupd (c : Dev nD) {α : Type} (p : Prog (TpuEff nD τ sig (Elt F) Λ₀ .tc) α) (Q : α → sProp 𝕄) :
    wpB c p (fun a => iprop(|={Set.univ}=> Q a)) ⊢ wpB c p Q := wp_fupd _ _ _ _ _

/-- A device's body, from whole buffers to whole buffers: the result is finished, and every semaphore is at zero. -/
theorem wp_whole (c : Dev nD) (Q : PUnit → sProp 𝕄) :
    iprop(records m K ∗ ringIn (F := F) c ∗ owed (F := F) c (O₀ c) ∗ scratch (F := F) c ∗ (xPts m c ∗ resPts m c ∗ gamPts m c) ∗ anyBuf (F := F) c cc0_stg3_0
        ∗ ((zeros (F := F) c ∗ owed (F := F) c 0 ∗ scratch (F := F) c ∗ (xPts m c ∗ resPts m c ∗ gamPts m c) ∗ (((c : Thread nD τ).loc cc0_stg3_0) ↦{fullShare} outG m)) -∗ Q ⟨⟩))
      ⊢ wpB c (steps c) Q := by
  unfold ringIn scratch
  iintro ⟨#HR, ⟨⟨Ha, Hc, Ht, Ht'⟩, C0, C1, C2, C3⟩, HO, ⟨B0, B1, B2, B3⟩, Hin, Hout, Hk⟩
  ihave B0 := (sndR_split c) $$ B0
  ihave B1 := (rcvR_split c) $$ B1
  ihave B2 := (sndL_split c) $$ B2
  ihave B3 := (rcvL_split c) $$ B3
  ihave Hout := (out_split c) $$ Hout
  icases Hout with ⟨Ho, L2, L3⟩
  icases B0 with ⟨S00, S01⟩
  icases B2 with ⟨S10, S11⟩
  iapply (wpB_fupd c (steps c) Q)
  iapply (wp_steps m K c)
  isplitr; · iexact HR
  isplitr [Hk]
  · unfold bodyIn shakePre
    isplitl [HO Ha Hc Ht Ht' B1 B3 L2 L3]
    · isplitl [HO]; · iexact HO
      isplitl [Ha]; · iexact Ha
      isplitl [Hc]; · iexact Hc
      isplitl [Ht]; · iexact Ht
      isplitl [Ht']; · iexact Ht'
      isplitl [B1]; · iexact B1
      isplitl [B3]; · iexact B3
      isplitl [L2]; · iexact L2
      iexact L3
    isplitl [Hin]; · iexact Hin
    isplitl [S00 S01 S10 S11]
    · isplitl [S00]; · iexact S00
      isplitl [S01]; · iexact S01
      isplitl [S10]; · iexact S10
      iexact S11
    isplitl [Ho]; · iexact Ho
    isplitl [C0]; · iexact C0
    isplitl [C1]; · iexact C1
    isplitl [C2]; · iexact C2
    iexact C3
  unfold bodyOut
  iintro ⟨HO, Hz, Hin, H0, H1, G2, G3⟩
  imod (rs_end m K 0 c rfl) $$ [H0] with ⟨S0, L0, Z0⟩
  · isplitr; · iexact HR
    iexact H0
  imod (rs_end m K 1 c rfl) $$ [H1] with ⟨S1, L1, Z1⟩
  · isplitr; · iexact HR
    iexact H1
  imod (ag_end m K 2 c) $$ [G2] with ⟨R2, Z2⟩
  · isplitr; · iexact HR
    iexact G2
  imod (ag_end m K 3 c) $$ [G3] with ⟨R3, Z3⟩
  · isplitr; · iexact HR
    iexact G3
  ihave B0 := (sndR_join c) $$ S0
  ihave B1 := (rcvR_join c) $$ L0
  ihave B2 := (sndL_join c) $$ S1
  ihave B3 := (rcvL_join c) $$ L1
  imodintro
  iapply Hk
  isplitl [Hz Z0 Z1 Z2 Z3]
  · unfold zeros closed
    isplitl [Hz]; · iexact Hz
    irw [bigSep_chan fun k => semVal (kcell (c, k)) 0, bigSep_four]
    isplitl [Z0]; · iexact Z0
    isplitl [Z1]; · iexact Z1
    isplitl [Z2]; · iexact Z2
    iexact Z3
  isplitl [HO]; · iexact HO
  isplitl [B0 B1 B2 B3]
  · isplitl [B0]; · iexact B0
    isplitl [B1]; · iexact B1
    isplitl [B2]; · iexact B2
    iexact B3
  isplitl [Hin]; · iexact Hin
  iapply (rows_join m c)
  irw [bigSep_rows c]
  isplitl [R2]; · iexact R2
  iexact R3

end Cert.KernelIdealProof

end
-- ==== Proof.KernelIdealRun.lean ====
/-
# The launch and the run

At launch every semaphore's invariant is made, every device gets its places on its own semaphores, the tokens of the
duties that it pays on the neighbours' semaphores, and the credit that the neighbours owe it. With those each device runs
its body; at the end its result array holds `outG` and every semaphore is at zero.
-/
module

public import proofs.«01_k».proof.Proof.KernelIdealParts
public import proofs.«01_k».proof.Proof.Gen.KernelIdeal.Points
public import Idealize.ShloMosaic.Lib.Pipeline.Launch
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 37 → ℕ)

/-! ## The semaphores and the tokens -/

abbrev s₀ : MemSt nD τ sig (Elt F) := ⟨m, fun _ => 0, ρ⟩

/-- The kernel's own semaphores: the 36 for transfers. -/
abbrev osem (k : Fin 36) : SemLoc sig := csem k.castSucc

theorem ownSemFacts : Pipeline.OwnSemFacts cfg0.spec osem := by decide

theorem csem_injective : Function.Injective csem := by decide
theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  rw [h1, h2]
def ringCells : Finset (GSem nD τ sig) := Finset.univ.map ⟨kcell, kcell_injective⟩

/-- The duties of a device's own semaphores: the barrier's two, each arrival's, each send's. -/
abbrev Duty : Type := Bool ⊕ ((Fin 4 × Fin 7) ⊕ (Fin 4 × Fin 7))

def tokOf (x : Dev nD × Duty) : GSem nD τ sig × ℕ × Bool := match x.2 with
  | .inl d => (barCell x.1, 0, d)
  | .inr (.inl y) => (recvCell x.1 y.1 y.2, 0, false)
  | .inr (.inr y) => (sendCell x.1 y.1 y.2.val, y.2.val / 2, false)

/-- A semaphore's number; the barrier's counts as none. -/
def semNum (sm : SemLoc sig) : ℕ := match sm with
  | .reg _ => 0
  | .dma q => q.val
theorem semNum_send (c : Dev nD) (ch : Fin 4) (k : ℕ) : semNum (sendCell c ch k).2 = 4 + 9 * ch.val + k % 2 := rfl
theorem semNum_recv (c : Dev nD) (ch : Fin 4) (s : Fin 7) : semNum (recvCell c ch s).2 = 4 + 9 * ch.val + 2 + s.val := rfl

theorem tokOf_dev (x : Dev nD × Duty) : (tokOf x).1.1.1 = x.1 := by
  rcases x with ⟨c, d | y | y⟩ <;> rfl
theorem pair_eq {y z : Fin 4 × Fin 7} (h1 : y.1.val = z.1.val) (h2 : y.2.val = z.2.val) : y = z := Prod.ext (Fin.ext h1) (Fin.ext h2)
theorem tokOf_injective : Function.Injective tokOf := by
  rintro ⟨c, j⟩ ⟨c', j'⟩ h
  have h1 : c = c' := by have := congrArg (fun t => t.1.1.1) h; rwa [tokOf_dev, tokOf_dev] at this
  subst h1
  have hn : semNum (tokOf (c, j)).1.2 = semNum (tokOf (c, j')).1.2 := congrArg (fun t => semNum t.1.2) h
  have hr : (tokOf (c, j)).2.1 = (tokOf (c, j')).2.1 := congrArg (fun t => t.2.1) h
  have hd : (tokOf (c, j)).2.2 = (tokOf (c, j')).2.2 := congrArg (fun t => t.2.2) h
  congr 1
  rcases j with d | y | y <;> rcases j' with d' | z | z
  · exact congrArg Sum.inl hd
  · have hn : 0 = 4 + 9 * z.1.val + 2 + z.2.val := hn
    omega
  · have hn : 0 = 4 + 9 * z.1.val + z.2.val % 2 := hn
    omega
  · have hn : 4 + 9 * y.1.val + 2 + y.2.val = 0 := hn
    omega
  · have hn : 4 + 9 * y.1.val + 2 + y.2.val = 4 + 9 * z.1.val + 2 + z.2.val := hn
    have a := y.2.isLt; have b := z.2.isLt
    exact congrArg (fun t => Sum.inr (Sum.inl t)) (pair_eq (by omega) (by omega))
  · have hn : 4 + 9 * y.1.val + 2 + y.2.val = 4 + 9 * z.1.val + z.2.val % 2 := hn
    have a := y.2.isLt; have b := z.2.isLt
    omega
  · have hn : 4 + 9 * y.1.val + y.2.val % 2 = 0 := hn
    omega
  · have hn : 4 + 9 * y.1.val + y.2.val % 2 = 4 + 9 * z.1.val + 2 + z.2.val := hn
    have a := y.2.isLt; have b := z.2.isLt
    omega
  · have hn : 4 + 9 * y.1.val + y.2.val % 2 = 4 + 9 * z.1.val + z.2.val % 2 := hn
    have hr : y.2.val / 2 = z.2.val / 2 := hr
    have a := y.2.isLt; have b := z.2.isLt
    exact congrArg (fun t => Sum.inr (Sum.inr t)) (pair_eq (by omega) (by omega))
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own semaphores, as they are made, -/
def toks (c : Dev nD) : sProp 𝕄 :=
  iprop((dutyTok ER (barCell c) 0 true ∗ dutyTok ER (barCell c) 0 false)
    ∗ (bigSep Finset.univ fun y : Fin 4 × Fin 7 => dutyTok ER (recvCell c y.1 y.2) 0 false)
    ∗ bigSep Finset.univ fun y : Fin 4 × Fin 7 => dutyTok ER (sendCell c y.1 y.2.val) (y.2.val / 2) false)
/-- and those of the duties that it pays: the neighbours' barriers, its targets' arrivals, its own sends. -/
def payToks (c : Dev nD) : sProp 𝕄 :=
  iprop((dutyTok ER (barCell (prv c)) 0 true ∗ dutyTok ER (barCell (nxt c)) 0 false)
    ∗ (bigSep Finset.univ fun y : Fin 4 × Fin 7 => dutyTok ER (recvCell (tgt y.1 c) y.1 y.2) 0 false)
    ∗ bigSep Finset.univ fun y : Fin 4 × Fin 7 => dutyTok ER (sendCell c y.1 y.2.val) (y.2.val / 2) false)

/-- Each arrival's token goes to the device that sends there. -/
theorem recv_around : (bigSep Finset.univ fun c : Dev nD => bigSep Finset.univ fun y : Fin 4 × Fin 7 => (dutyTok ER (recvCell c y.1 y.2) 0 false : sProp 𝕄))
    = bigSep Finset.univ fun c : Dev nD => bigSep Finset.univ fun y : Fin 4 × Fin 7 => dutyTok ER (recvCell (tgt y.1 c) y.1 y.2) 0 false := by
  rw [← bigSep_univ_prod (fun x : Dev nD × (Fin 4 × Fin 7) => (dutyTok ER (recvCell x.1 x.2.1 x.2.2) 0 false : sProp 𝕄)),
    ← bigSep_univ_prod (fun x : Dev nD × (Fin 4 × Fin 7) => (dutyTok ER (recvCell (tgt x.2.1 x.1) x.2.1 x.2.2) 0 false : sProp 𝕄))]
  refine bigSep_along (fun x : Dev nD × (Fin 4 × Fin 7) => (tgt x.2.1 x.1, x.2)) ?_ rfl _
  rintro ⟨c, y⟩ ⟨c', z⟩ h
  have h2 : y = z := congrArg Prod.snd h
  subst h2
  have h1 : tgt y.1 c = tgt y.1 c' := congrArg Prod.fst h
  rw [← org_tgt y.1 c, h1, org_tgt]

theorem toks_around : (bigSep Finset.univ fun c : Dev nD => (toks c : sProp 𝕄)) = bigSep Finset.univ fun c : Dev nD => payToks c := by
  unfold toks payToks
  simp only [bigSep_sep']
  rw [recv_around, bigSep_univ_equiv turn (fun c : Dev nD => (dutyTok ER (barCell c) 0 false : sProp 𝕄)),
    bigSep_univ_equiv turn.symm (fun c : Dev nD => (dutyTok ER (barCell c) 0 true : sProp 𝕄))]
  rfl

/-! ## What the launch gives -/

/-- A device's share of what is made for the ring: its semaphores' states, its places on them, its tokens. -/
def G (c : Dev nD) : sProp 𝕄 :=
  iprop((bigSep Finset.univ fun k : Fin 37 => roundState ER (ringRd m) (kcell (c, k)) 0)
    ∗ (bigSep Finset.univ fun k : Fin 37 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 37 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum, bigSep_univ_eq_bigSepL [true, false] (by decide) (by decide)]
    rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier's at zero are the ring's. -/
theorem sems_eq (c : Dev nD) :
    iprop(unscopedSems0 c ∗ Pipeline.ownSems0 (Ix := Unit) (Name := ℕ) (U := UU) (Lvl := ℕ) (Val := Elt F) (τ := τ) osem c) = (zeros (F := F) c) := by
  rw [unscopedSems0_eq]; rfl
theorem zeros_eq (c : Dev nD) : zeros (F := F) c = bigSep Finset.univ fun k : Fin 37 => semVal (kcell (c, k)) 0 :=
  (bigSep_last fun k : Fin 37 => (semVal (kcell (c, k)) 0 : sProp 𝕄)).symm

/-- A device's invariants are made. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 37 => iprop(∃ κ : ℕ, cellInv ER (ringRd m) κ (kcell (c, k))))
          ∗ (bigSep Finset.univ fun k : Fin 37 => iprop(atPos ER (kcell (c, k)) 0 ∅ 0 ∗ reached ER (kcell (c, k)) 0)) ∗ toks c) := by
  unfold G
  iintro ⟨Hos, Hus, Hst, Hat, Htok⟩
  ihave Hv := ((Entails.of_eq (sems_eq (F := F) c)).trans (Entails.of_eq (zeros_eq (F := F) c))) $$ [Hos Hus]
  · isplitl [Hus]; · iexact Hus
    iexact Hos
  imod (show iprop((bigSep Finset.univ fun k : Fin 37 => semVal (kcell (c, k)) 0) ∗ bigSep Finset.univ fun k : Fin 37 => roundState ER (ringRd m) (kcell (c, k)) 0)
      ⊢ (|={Set.univ}=> bigSep Finset.univ fun k : Fin 37 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- All devices' invariants and that every semaphore has reached round 0. -/
def known : sProp 𝕄 :=
  iprop((bigSep Finset.univ fun ck : Dev nD × Fin 37 => cellInv ER (ringRd m) (K ck) (kcell ck)) ∗ bigSep Finset.univ fun ck : Dev nD × Fin 37 => reached ER (kcell ck) 0)
instance known_persistent : BI.Persistent (known m K) := by unfold known; infer_instance

/-- A device's places on its semaphores. -/
def places (c : Dev nD) : sProp 𝕄 := bigSep Finset.univ fun k : Fin 37 => atPos ER (kcell (c, k)) 0 ∅ 0

/-- What a device has after the invariants are made and the tokens are dealt. -/
def G' (c : Dev nD) : sProp 𝕄 := iprop(∃ K, known m K ∗ places c ∗ payToks c)

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_intro (c : Dev nD) : iprop(known m K ∗ (places c ∗ payToks c)) ⊢ G' m c := by
  unfold G'
  iintro H
  iexists K
  iexact H

theorem regroup :
    (bigSep Finset.univ fun c : Dev nD => iprop((bigSep Finset.univ fun k : Fin 37 => iprop(∃ κ : ℕ, cellInv ER (ringRd m) κ (kcell (c, k))))
          ∗ (bigSep Finset.univ fun k : Fin 37 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 37 => iprop(∃ κ : ℕ, cellInv ER (ringRd m) κ (kcell ck))),
    bigSep_congr (s := Finset.univ) (fun (c : Dev nD) _ => bigSep_sep' Finset.univ (fun k : Fin 37 => (atPos ER (kcell (c, k)) 0 ∅ 0 : sProp 𝕄)) (fun k => reached ER (kcell (c, k)) 0)),
    bigSep_sep', ← bigSep_univ_prod (fun ck : Dev nD × Fin 37 => (reached ER (kcell ck) 0 : sProp 𝕄)), toks_around]
  iintro ⟨HI, ⟨Hat, #HR⟩, Htok⟩
  ihave HK := (BI.bigSep_exists_pi Finset.univ (fun (ck : Dev nD × Fin 37) (κ : ℕ) => (cellInv ER (ringRd m) κ (kcell ck) : sProp 𝕄))) $$ HI
  icases HK with ⟨%K, #HI⟩
  iapply (bigSep_with (R := known m K) (Φ := fun c : Dev nD => iprop(places c ∗ payToks c)) fun c _ => deal_intro m K c)
  isplitr
  · unfold known; isplitl; · iexact HI
    iexact HR
  · irw [bigSep_sep']
    isplitl [Hat]; · unfold places; iexact Hat
    iexact Htok

/-- The step at launch, all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- The credit device `c` waits with for step `t` from direction `d`. -/
abbrev credT (c : Dev nD) (d : Fin 2) (t : ℕ) : sProp 𝕄 := cred (tallyAt (recvCell c (chan d t) (stp t)) () N)

theorem due_cred (c : Dev nD) (d : Fin 2) (t : ℕ) : (Pipeline.launchCred (fun a => due a d t) c : sProp 𝕄) ⊢ credT c d t :=
  Pipeline.launchCred_tallyAt (.dma (rcvS (chan d t) (stp t))) (tgt (chan d t)) (org (chan d t)) (tgt_org _) (org_tgt _) () N c

theorem rem_creds (c : Dev nD) : ∀ k, k ≤ 14 → (Pipeline.launchCred (fun a => remK a k) c : sProp 𝕄)
    ⊢ upto (fun i : Fin 14 => iprop(credT (F := F) c 0 (13 - i.val) ∗ credT c 1 (13 - i.val))) k := by
  intro k
  induction k with
  | zero =>
    intro _
    rw [upto_zero]
    exact Entails.of_eq (Pipeline.launchCred_zero c)
  | succ k ih =>
    intro hk
    have e := upto_succ (fun i : Fin 14 => iprop(credT (F := F) c 0 (13 - i.val) ∗ credT c 1 (13 - i.val))) ⟨k, hk⟩
    rw [show upto (fun i : Fin 14 => iprop(credT (F := F) c 0 (13 - i.val) ∗ credT c 1 (13 - i.val))) (k + 1) = _ from e]
    rw [show (fun a => remK a (k + 1)) = fun a => (remK a k + due a 1 (13 - k)) + due a 0 (13 - k) from rfl,
      Pipeline.launchCred_add (fun a => remK a k + due a 1 (13 - k)) (fun a => due a 0 (13 - k)) c,
      Pipeline.launchCred_add (fun a => remK a k) (fun a => due a 1 (13 - k)) c]
    iintro ⟨⟨H, H1⟩, H0⟩
    isplitl [H0 H1]
    · isplitl [H0]
      · iapply (due_cred c 0 (13 - k)); iexact H0
      · iapply (due_cred c 1 (13 - k)); iexact H1
    · iapply (ih (by omega)); iexact H

/-- The steps and directions are the channels and their steps. -/
def byStep (x : Fin 14 × Fin 2) : Fin 4 × Fin 7 := (chan x.2 (13 - x.1.val), stp (13 - x.1.val))
theorem byStep_inj : Function.Injective byStep := by decide

theorem creds (c : Dev nD) : (Pipeline.launchCred O₀ c : sProp 𝕄)
    ⊢ iprop(cred (tallyAt (barCell c) () 2) ∗ bigSep Finset.univ fun y : Fin 4 × Fin 7 => cred (tallyAt (recvCell c y.1 y.2) () N)) := by
  have hr : (Pipeline.launchCred (fun a => remK a 14) c : sProp 𝕄) ⊢ bigSep Finset.univ fun y : Fin 4 × Fin 7 => cred (tallyAt (recvCell c y.1 y.2) () N) := by
    refine (rem_creds c 14 (Nat.le_refl _)).trans (Entails.of_eq ?_)
    rw [upto_all, bigSep_along byStep byStep_inj (by decide), bigSep_univ_prod]
    exact bigSep_congr fun i _ => (bigSep_two fun d : Fin 2 => credT (F := F) c d (13 - i.val)).symm
  have hb := Entails.of_eq (Pipeline.launchCred_add (Ix := Unit) (Val := Elt F) (Name := ℕ) (U := UU) (Lvl := ℕ) (fun a : Dev nD => remK a 14 + tallyAt (barCell (nxt a)) () 1) (fun a => tallyAt (barCell (prv a)) () 1) c)
  have hb' := Entails.of_eq (Pipeline.launchCred_add (Ix := Unit) (Val := Elt F) (Name := ℕ) (U := UU) (Lvl := ℕ) (fun a : Dev nD => remK a 14) (fun a => tallyAt (barCell (nxt a)) () 1) c)
  refine (show (Pipeline.launchCred O₀ c : sProp 𝕄) ⊢ _ from hb).trans ((sep_mono_left hb').trans ?_)
  iintro ⟨⟨H, H1⟩, H0⟩
  isplitl [H0 H1]
  · irw [show (tallyAt (barCell c) () 2 : CellTallies nD τ sig Unit) = tallyAt (barCell c) () 1 + tallyAt (barCell c) () 1 from (tallyAt_add _ _ 1 1).symm]
    iapply (cred_add _ _).2
    isplitl [H0]
    · iapply (Pipeline.launchCred_tallyAt (.reg barS) prv nxt prv_nxt nxt_prv () 1 c); iexact H0
    · iapply (Pipeline.launchCred_tallyAt (.reg barS) nxt prv nxt_prv prv_nxt () 1 c); iexact H1
  · iapply hr; iexact H

/-! ## A device's start -/

/-- A channel's share of the places, tokens and credit. -/
theorem chan_intro (ch : Fin 4) (c : Dev nD) :
    iprop(records m K ∗ ((((atPos ER (kcell (c, iS ch 0)) 0 ∅ 0 ∗ atPos ER (kcell (c, iS ch 1)) 0 ∅ 0) ∗ bigSep Finset.univ fun s : Fin 7 => atPos ER (kcell (c, iR ch s)) 0 ∅ 0)
        ∗ (bigSep Finset.univ fun s : Fin 7 => cred (tallyAt (recvCell c ch s) () N)))
        ∗ ((bigSep Finset.univ fun s : Fin 7 => dutyTok ER (recvCell (tgt ch c) ch s) 0 false) ∗ bigSep Finset.univ fun s : Fin 7 => dutyTok ER (sendCell c ch s.val) (s.val / 2) false)))
      ⊢ chanIn (F := F) ch c := by
  have h0 := reached_at m K (c, iS ch 0)
  have h1 := reached_at m K (c, iS ch 1)
  rw [kcell_send] at h0 h1
  have ek : (bigSep Finset.univ fun s : Fin 7 => (atPos ER (kcell (c, iR ch s)) 0 ∅ 0 : sProp 𝕄)) = bigSep Finset.univ fun s : Fin 7 => atPos ER (recvCell c ch s) 0 ∅ 0 :=
    bigSep_congr fun s _ => by rw [kcell_recv]
  unfold chanIn ticket sendAt
  rw [kcell_send, kcell_send, ek]
  simp only [bigSep_sep']
  iintro ⟨#HR, ⟨⟨⟨Ha, Hb⟩, Hr⟩, Hc⟩, Ht, Hs⟩
  isplitl [Ha]
  · isplitl [Ha]; · iexact Ha
    iapply h0; iexact HR
  isplitl [Hb]
  · isplitl [Hb]; · iexact Hb
    iapply h1; iexact HR
  isplitl [Hr]; · iexact Hr
  isplitl [Hc]; · iexact Hc
  isplitl [Ht]; · iexact Ht
  iexact Hs

theorem bigSep_quad (A B C D : Fin 4 → sProp 𝕄) :
    (bigSep Finset.univ fun ch => iprop((A ch ∗ B ch) ∗ (C ch ∗ D ch)))
      = iprop((bigSep Finset.univ A ∗ bigSep Finset.univ B) ∗ (bigSep Finset.univ C ∗ bigSep Finset.univ D)) := by
  rw [bigSep_sep', bigSep_sep', bigSep_sep']

theorem ring_intro (c : Dev nD) :
    iprop(records m K ∗ places c ∗ payToks c ∗ cred (tallyAt (barCell c) () 2) ∗ bigSep Finset.univ fun y : Fin 4 × Fin 7 => cred (tallyAt (recvCell c y.1 y.2) () N))
      ⊢ ringIn (F := F) c := by
  unfold places payToks ringIn
  rw [bigSep_last (fun k : Fin 37 => (atPos ER (kcell (c, k)) 0 ∅ 0 : sProp 𝕄)), bigSep_chan (fun k : Fin 37 => (atPos ER (kcell (c, k)) 0 ∅ 0 : sProp 𝕄))]
  simp only [bigSep_univ_prod]
  iintro ⟨#HR, ⟨Hb, Hat⟩, ⟨⟨Ht, Hf⟩, Htr, Hts⟩, Hcb, Hcr⟩
  isplitl [Hb Ht Hf Hcb]
  · isplitl [Hb]; · iexact Hb
    isplitl [Hcb]; · iexact Hcb
    isplitl [Ht]; · iexact Ht
    iexact Hf
  iapply ((bigSep_with (S := Finset.univ) (R := records m K) fun ch _ => chan_intro m K ch c).trans (Entails.of_eq (bigSep_four fun ch => chanIn (F := F) ch c)))
  isplitr; · iexact HR
  irw [bigSep_quad]
  isplitl [Hat Hcr]
  · isplitl [Hat]; · iexact Hat
    iexact Hcr
  isplitl [Htr]; · iexact Htr
  iexact Hts

/-- What a device's body starts from, beside its buffers. -/
def start (c : Dev nD) : sProp 𝕄 := iprop(∃ K, records m K ∗ ringIn (F := F) c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, #Hlev, Hcr, -, ⟨%K, #Hk, Hat, Ht⟩⟩
  ihave Hc := (creds (F := F) c) $$ Hcr
  icases Hc with ⟨Hcb, Hcr⟩
  ihave #HR := (show iprop(known m K ∗ levAts L lv) ⊢ records m K from by
    unfold known records
    iintro ⟨⟨#H1, #H2⟩, #H3⟩
    isplitr; · iexact H1
    isplitr; · iexact H2
    iexact H3) $$ []
  · isplitr; · iexact Hk
    iexact Hlev
  imodintro
  isplitl
  · iexists K
    isplitr; · iexact HR
    iapply (ring_intro m K c)
    isplitr; · iexact HR
    isplitl [Hat]; · iexact Hat
    isplitl [Ht]; · iexact Ht
    isplitl [Hcb]; · iexact Hcb
    iexact Hcr
  · iempintro

/-! ## The proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => resstg m c
    | ⟨2, _⟩ => gamstg m c
    | ⟨3, _⟩ => outG m
  Φ t := match t with
    | ⟨0, _⟩ => iprop(start m c ∗ scratch c)
    | ⟨_ + 1, _⟩ => iprop(zeros c ∗ scratch c)
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scratch c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop((zeros c ∗ scratch c) ∗ (dats m ρ 0 c).owesAt () t0_0.succ
    ∗ stg c cc0_stg0_0 (xstg m c) ∗ stg c cc0_stg1_0 (resstg m c) ∗ stg c cc0_stg2_0 (gamstg m c) ∗ stg c cc0_stg3_0 (outG m))

theorem before_x (c : Dev nD) (d) : (dats m ρ 0 c).before (0 : Fin 4) t0_0 d = xstg m c := by
  unfold Dat.before; rw [if_pos (fetch0_0 t0_0)]; rfl
theorem before_res (c : Dev nD) (d) : (dats m ρ 0 c).before (1 : Fin 4) t0_0 d = resstg m c := by
  unfold Dat.before; rw [if_pos (fetch0_1 t0_0)]; rfl
theorem before_gam (c : Dev nD) (d) : (dats m ρ 0 c).before (2 : Fin 4) t0_0 d = gamstg m c := by
  unfold Dat.before; rw [if_pos (fetch0_2 t0_0)]; rfl

/-- A device's body from what the launch and the pipeline give it to what they expect back. -/
theorem sound_body (c : Dev nD) : bodyPre m ρ c ⊢ wpB c (.op .deviceId (steps (F := F))) fun _ => bodyPost m ρ c := by
  have e : wpB c (.op .deviceId (steps (F := F))) (fun _ => bodyPost m ρ c) = wpB c (steps c) fun _ => bodyPost m ρ c := by
    unfold wpB; rw [wp_deviceId]
  rw [e]
  unfold bodyPre start
  iintro ⟨⟨⟨%K, #HR, Hring⟩, Hscr⟩, Ho, ⟨%d0, %g0, %h0, Hx⟩, ⟨%d1, %g1, %h1, Hres⟩, ⟨%d2, %g2, %h2, Hgam⟩, ⟨%d3, %g3, %h3, Hout⟩⟩
  rw [before_x] at h0; rw [before_res] at h1; rw [before_gam] at h2
  subst h0 h1 h2
  unfold Dat.owesAt Pipeline.owesWithin
  icases Ho with ⟨%W, %hW, HO⟩
  iapply (wp_whole m K c)
  isplitr; · iexact HR
  isplitl [Hring]; · iexact Hring
  isplitl [HO]; · unfold owed; iexists W; iexact HO
  isplitl [Hscr]; · iexact Hscr
  isplitl [Hx Hres Hgam]
  · unfold xPts resPts gamPts
    isplitl [Hx]; · iexact Hx
    isplitl [Hres]; · iexact Hres
    iexact Hgam
  isplitl [Hout]; · unfold anyBuf; iexists g3; iexact Hout
  unfold owed xPts resPts gamPts
  iintro ⟨Hz, ⟨%W', HO⟩, Hscr, ⟨Hx, Hres, Hgam⟩, Hout⟩
  unfold bodyPost Dat.owesAt Pipeline.owesWithin
  isplitl [Hz Hscr]
  · isplitl [Hz]; · iexact Hz
    iexact Hscr
  isplitl [HO]
  · iexists W'
    isplitr; · ipureintro; exact fun _ _ => Or.inl trivial
    iexact HO
  isplitl [Hx]
  · iexists _; isplitr; · (ipureintro; rfl)
    iexact Hx
  isplitl [Hres]
  · iexists _; isplitr; · (ipureintro; rfl)
    iexact Hres
  isplitl [Hgam]
  · iexists _; isplitr; · (ipureintro; rfl)
    iexact Hgam
  iexists _; isplitr; · (ipureintro; rfl)
  iexact Hout

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpB c (cc0__body xM (Memref.isWhole_whole _) resM (Memref.isWhole_whole _) gamM (Memref.isWhole_whole _) outM (Memref.isWhole_whole _)
    sndR (Memref.isWhole_whole _) rcvR (Memref.isWhole_whole _) sndL (Memref.isWhole_whole _) rcvL (Memref.isWhole_whole _)
    cc0_scratch4 cc0_scratch5 cc0_scratch6 cc0_scratch7 cc0_scratch8 cc0_scratch9 cc0_scratch10 cc0_scratch11) (fun _ => bodyPost m ρ c)
  rw [cc0__body_eq_skeleton, body_eq]
  exact sound_body m ρ c

/-! ## The run -/

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  iintro ⟨Hs, -, Hr⟩
  isplitl [Hs]; · iexact Hs
  unfold scratch anyBuf
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scopedRest0_eq, ← sems_eq]
  iintro ⟨⟨Hb, Ho⟩, Hr⟩
  isplitl [Hb]; · iexact Hb
  isplitl [Ho]; · iexact Ho
  unfold scratch anyBuf
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What an array of the call holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any floats and from any memory with the counters at zero, every execution
    terminates, with each array of the call at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The arguments' arrays hold at the end what they held. -/
theorem finalA_x (c : Dev nD) : finalA m ρ c (0 : Fin 4) = m ((c : Thread nD τ).loc main_arg0) := (dats (F := F) m ρ 0 c).arrAt_in (0 : Fin 4) rfl _
theorem finalA_res (c : Dev nD) : finalA m ρ c (1 : Fin 4) = m ((c : Thread nD τ).loc main_arg1) := (dats (F := F) m ρ 0 c).arrAt_in (1 : Fin 4) rfl _
theorem finalA_gam (c : Dev nD) : finalA m ρ c (2 : Fin 4) = m ((c : Thread nD τ).loc main_arg2) := (dats (F := F) m ρ 0 c).arrAt_in (2 : Fin 4) rfl _

end Cert.KernelIdealProof

end
-- ==== Proof.ReferenceIdealValue.lean ====
/-
# The reference's result, index by index

Over the reals, the reference's result at row `r` and column `k` is the normalised row of the sum over the eight partial
arrays and the residual. Every counter of its machine is zero, since it has none.
-/
module

public import proofs.«01_k».proof.Defs
public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdealProof

open Cert.ReferenceIdeal Cert.ReferenceIdeal.Gen
open Idealize.ShloMosaic
open Idealize.ShloMosaic.TcCoe
open Idealize.SL.Sem

/-- Entry `k` of a row `y` divided by its root mean square, times the weight. -/
def normed (y g : Fin 2048 → EReal) (k : Fin 2048) : EReal :=
  Ideal.div (y k) (Ideal.sqrt (Ideal.div (∑ l, y l * y l) (Ideal.ofBits .f32 0x45000000#32) + Ideal.ofBits .f32 0x358637BD#32)) * g k

/-- The sum over the partial arrays, with the residual. -/
def total (A : FVec Ideal S8x2048x2048 .bf16) (R : FVec Ideal S2048x2048 .bf16) : FVec Ideal S2048x2048 .f32 :=
  addf (Host.reduceAdd (extf .f32 A bitsLt_bf16_f32) (constant S_ .f32 0x00000000#32) reducesTo_S8x2048x2048_S2048x2048_d0 h_S_)
    (extf .f32 R bitsLt_bf16_f32)

/-- The reference's result, of its three arguments. -/
def result (A : FVec Ideal S8x2048x2048 .bf16) (R : FVec Ideal S2048x2048 .bf16) (G : FVec Ideal S2048 .bf16) : FVec Ideal S2048x2048 .bf16 :=
  truncf .bf16 (mulf (Host.divf (total A R) (broadcastInDim S2048x2048 ![0, 1] bcast_S2048x1_S2048x2048_0_1
      (Host.sqrt (addf (Host.divf (broadcastInDim S2048x1 ![0] bcast_S2048_S2048x1_0
        (Host.reduceAdd (mulf (total A R) (total A R)) (constant S_ .f32 0x00000000#32) reducesTo_S2048x2048_S2048_d1 h_S_))
        (broadcastInDim S2048x1 ![] bcast_S_S2048x1 (constant S_ .f32 0x45000000#32)))
        (broadcastInDim S2048x1 ![] bcast_S_S2048x1 (constant S_ .f32 0x358637BD#32))))))
    (broadcastInDim S2048x2048 ![0, 1] bcast_S1x2048_S2048x2048_0_1 (broadcastInDim S1x2048 ![1] bcast_S2048_S1x2048_1
      (extf .f32 G bitsLt_bf16_f32)))) bitsLt_bf16_f32

theorem result_at (A : FVec Ideal S8x2048x2048 .bf16) (R : FVec Ideal S2048x2048 .bf16) (G : FVec Ideal S2048 .bf16) (r k : Fin 2048) :
    result A R G (ix2 r k) = normed (fun l => (∑ d : Fin 8, A (ix3 d r l)) + R (ix2 r l)) (fun l => G (ix1 l)) k := by
  pointwise [result, total, normed]

variable (m : (ℓ : Loc nD τ sig) → Buf (Elt Ideal) ℓ) (ρ : Dev nD → PrngReg)

/-- The reference runs, with its result at `result` of its arguments, which end unchanged. -/
theorem run_main : θ_run defs (onTc (τ := τ) (main (F := Ideal))) ⟨m, fun _ => 0, ρ⟩ fun r => ∀ c : Dev nD,
    r.2.mem ((c.tc : Thread nD τ).loc main_v18) = result (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  Value.run m ρ

/-- The reference runs, with its arguments unchanged and every counter at zero. -/
theorem quiescent : Cert.quiescent_ReferenceIdeal := fun m ρ _ =>
  (θ_run defs _ _).mono (fun r h => ⟨fun c => (h c).2, sem_eq_zero_of_no_sems (by decide) r.2⟩) (run_main m ρ)

end Cert.ReferenceIdealProof

end
-- ==== Proof.KernelIdealValue.lean ====
/-
# The value

Over the reals: a travelling partial sum is the sum, over the devices it passed, of one chunk of their rows; after the
whole turn it is the sum over all devices, and what a device stores of it is the reference's result at those rows.
-/
module

public import proofs.«01_k».proof.Proof.KernelIdealRun
public import proofs.«01_k».proof.Proof.ReferenceIdealValue
public import Idealize.ShloMosaic.Lib.Pipeline.ValueKit
public import Idealize.ShloMosaic.Lib.Pointwise

@[expose] public section

set_option maxRecDepth 16384

noncomputable section

namespace Cert.KernelIdealProof

open Cert.KernelIdeal Cert.KernelIdeal.Gen
open Idealize.ShloMosaic
open Idealize.ShloMosaic.TcCoe
open Idealize.SL.Sem
open Idealize.ShloMosaic.Pipeline (Dat Cfg Window)
open Cert.ReferenceIdealProof (normed result result_at)

/-! ## The result's array -/

section Array
variable {F : FTy → Type} [FloatOps F]
variable (m : (ℓ : Loc nD τ sig) → Buf (Elt F) ℓ) (ρ : Dev nD → PrngReg)

/-- The result's array holds at the end what the body leaves in its staging buffer. -/
theorem finalA_out (c : Dev nD) : finalA m ρ c (3 : Fin 4) = outG m := by
  refine (dats m ρ 0 c).arrAt_eq_of_after_last 3 t0_0 (by decide +kernel) _ fun j => ?_
  blk_simp
  rfl

end Array

/-! ## Sums around the ring -/

variable (m : (ℓ : Loc nD τ sig) → Buf (Elt Ideal) ℓ)

set_option backward.proofsInPublic true in
/-- Row `j` of chunk `i`. -/
def rowOf (i : Fin 16) (j : Fin 128) : Fin 2048 := ⟨128 * i.val + j.val, by omega⟩

theorem xRows_at (c : Dev nD) (i : Fin 16) (j : Fin 128) (k : Fin 2048) :
    xRows m c i (ix3 0 j k) = m ((c : Thread nD τ).loc main_arg0) (ix3 0 (rowOf i j) k) := by
  refine congrArg (m ((c : Thread nD τ).loc main_arg0)) (funext fun a => Fin.ext ?_)
  match a with
  | ⟨0, _⟩ => rfl
  | ⟨1, _⟩ => show 0 * 2048 + 1 * (128 * i.val + 1 * j.val) = 128 * i.val + j.val; omega
  | ⟨2, _⟩ => show 0 * 2048 + 1 * (0 + 1 * k.val) = k.val; omega

theorem resRows_at (c : Dev nD) (i : Fin 16) (j : Fin 128) (k : Fin 2048) :
    resRows m c i (ix2 j k) = m ((c : Thread nD τ).loc main_arg1) (ix2 (rowOf i j) k) := by
  refine congrArg (m ((c : Thread nD τ).loc main_arg1)) (funext fun a => Fin.ext ?_)
  match a with
  | ⟨0, _⟩ => show 0 * 2048 + 1 * (128 * i.val + 1 * j.val) = 128 * i.val + j.val; omega
  | ⟨1, _⟩ => show 0 * 2048 + 1 * (0 + 1 * k.val) = k.val; omega

theorem gamV_at (c : Dev nD) (k : Fin 2048) :
    gamV m c (ix1 k) = m ((c : Thread nD τ).loc main_arg2) (ix1 k) := by
  refine congrArg (m ((c : Thread nD τ).loc main_arg2)) (funext fun a => Fin.ext ?_)
  match a with
  | ⟨0, _⟩ => show 0 * 2048 + 1 * (0 + 1 * k.val) = k.val; omega

theorem accR_zero_at (c : Dev nD) (j : Fin 128) (k : Fin 2048) : accR m 0 c (ix3 0 j k) = xRows m c (lo c.val) (ix3 0 j k) := by
  pointwise [accR, k0_pay1]
theorem accL_zero_at (c : Dev nD) (j : Fin 128) (k : Fin 2048) : accL m 0 c (ix3 0 j k) = xRows m c (hi c.val) (ix3 0 j k) := by
  pointwise [accL, k0_pay2, k0_pay3]
/-- One step adds the device's own chunk to what comes in. -/
theorem pay4_at (a x : FVec Ideal S1x128x2048 .bf16) (j : Fin 128) (k : Fin 2048) :
    k0_pay4 a x (ix3 0 j k) = a (ix3 0 j k) + x (ix3 0 j k) := by
  pointwise [k0_pay4]
theorem pay5_at (a x : FVec Ideal S1x128x2048 .bf16) (j : Fin 128) (k : Fin 2048) :
    k0_pay5 a x (ix3 0 j k) = a (ix3 0 j k) + x (ix3 0 j k) := by
  pointwise [k0_pay5]

/-- A sum that travels: each device adds its own term of the chunk to what its neighbour passed on. -/
theorem ring_sum (nb : Dev nD → Dev nD) (X : Dev nD → Fin 16 → EReal) (ch : Dev nD → ℕ → Fin 16) (g : ℕ → Dev nD → EReal)
    (h0 : ∀ c, g 0 c = X c (ch c 0)) (hg : ∀ s, s < 6 → ∀ c, g (s + 1) c = g s (nb c) + X c (ch c (s + 1)))
    (hch : ∀ c s, ch (nb c) s = ch c (s + 1)) :
    ∀ s, s ≤ 6 → ∀ c, g s c = ∑ t ∈ Finset.range (s + 1), X (nb^[t] c) (ch c s)
  | 0, _, c => by rw [h0, Finset.sum_range_one]; rfl
  | s + 1, hs, c => by
    rw [hg s (by omega), ring_sum nb X ch g h0 hg hch s (by omega), Finset.sum_range_succ' _ (s + 1), hch]
    rfl

/-- After a whole turn it is the sum over the devices. -/
theorem ring_total (nb : Dev nD → Dev nD) (X : Dev nD → Fin 16 → EReal) (ch : Dev nD → ℕ → Fin 16) (g : ℕ → Dev nD → EReal)
    (h0 : ∀ c, g 0 c = X c (ch c 0)) (hg : ∀ s, s < 6 → ∀ c, g (s + 1) c = g s (nb c) + X c (ch c (s + 1)))
    (hch : ∀ c s, ch (nb c) s = ch c (s + 1)) (hnb : ∀ c, Function.Bijective fun t : Fin 8 => nb^[t.val] c) (c : Dev nD) :
    g 6 (nb c) + X c (ch c 7) = ∑ d : Dev nD, X d (ch c 7) := by
  rw [ring_sum nb X ch g h0 hg hch 6 (by omega), hch]
  refine Eq.trans ?_ ((hnb c).sum_comp fun d => X d (ch c 7))
  rw [Fin.sum_univ_eq_sum_range (fun t => X (nb^[t] c) (ch c 7)) 8, Finset.sum_range_succ' _ 7]
  rfl

theorem accR_total (c : Dev nD) (j : Fin 128) (k : Fin 2048) :
    accR m 6 (prv c) (ix3 0 j k) + xRows m c (lo (c.val + 1)) (ix3 0 j k) = ∑ d : Dev nD, xRows m d (lo (c.val + 1)) (ix3 0 j k) := by
  have h := ring_total prv (fun d i => xRows m d i (ix3 0 j k)) (fun d s => lo (d.val + 7 * s)) (fun s d => accR m s d (ix3 0 j k))
    (fun d => accR_zero_at m d j k)
    (fun s hs d => (pay4_at _ _ j k).trans (by
      rw [lo_congr (show (d.val + 7 - s) % 8 = (d.val + 7 * (s + 1)) % 8 by omega)]))
    (fun d s => lo_congr (by show ((d.val + 7) % 8 + 7 * s) % 8 = _; omega))
    (by decide) c
  rwa [lo_congr (show (c.val + 7 * 7) % 8 = (c.val + 1) % 8 by omega)] at h

theorem accL_total (c : Dev nD) (j : Fin 128) (k : Fin 2048) :
    accL m 6 (nxt c) (ix3 0 j k) + xRows m c (hi (c.val + 7)) (ix3 0 j k) = ∑ d : Dev nD, xRows m d (hi (c.val + 7)) (ix3 0 j k) :=
  ring_total nxt (fun d i => xRows m d i (ix3 0 j k)) (fun d s => hi (d.val + s)) (fun s d => accL m s d (ix3 0 j k))
    (fun d => accL_zero_at m d j k)
    (fun s hs d => pay5_at _ _ j k)
    (fun d s => hi_congr (by show ((d.val + 1) % 8 + s) % 8 = _; omega))
    (by decide) c

/-! ## The normalised row -/

theorem ownLo_at (c : Dev nD) (j : Fin 128) (k : Fin 2048) :
    ownLo m c (ix2 j k) = normed (fun l => (∑ d : Dev nD, xRows m d (lo (c.val + 1)) (ix3 0 j l)) + resRows m c (lo (c.val + 1)) (ix2 j l))
      (fun l => gamV m c (ix1 l)) k := by
  refine Eq.trans ?_ (congrArg (fun y => normed y (fun l => gamV m c (ix1 l)) k)
    (funext fun l => congrArg (fun z : EReal => z + resRows m c (lo (c.val + 1)) (ix2 j l)) (accR_total m c j l)))
  pointwise [ownLo, k0_pay23, k0_pay24, normed]

theorem ownHi_at (c : Dev nD) (j : Fin 128) (k : Fin 2048) :
    ownHi m c (ix2 j k) = normed (fun l => (∑ d : Dev nD, xRows m d (hi (c.val + 7)) (ix3 0 j l)) + resRows m c (hi (c.val + 7)) (ix2 j l))
      (fun l => gamV m c (ix1 l)) k := by
  refine Eq.trans ?_ (congrArg (fun y => normed y (fun l => gamV m c (ix1 l)) k)
    (funext fun l => congrArg (fun z : EReal => z + resRows m c (hi (c.val + 7)) (ix2 j l)) (accL_total m c j l)))
  pointwise [ownHi, k0_pay23, k0_pay25, k0_pay26, normed]

/-- A finished chunk, whichever device computes it, when all devices hold one residual and one gamma. -/
theorem outV_at (R : FVec Ideal S2048x2048 .bf16) (G : FVec Ideal S2048 .bf16)
    (hR : ∀ c : Dev nD, m ((c : Thread nD τ).loc main_arg1) = R) (hG : ∀ c : Dev nD, m ((c : Thread nD τ).loc main_arg2) = G)
    (i : Fin 16) (j : Fin 128) (k : Fin 2048) :
    outV m i (ix2 j k) = normed (fun l => (∑ d : Dev nD, xRows m d i (ix3 0 j l)) + R (ix2 (rowOf i j) l)) (fun l => G (ix1 l)) k := by
  have hr : ∀ (c : Dev nD) (l : Fin 2048), resRows m c i (ix2 j l) = R (ix2 (rowOf i j) l) := fun c l =>
    (resRows_at m c i j l).trans (congrFun (hR c) _)
  have hg : ∀ (c : Dev nD) (l : Fin 2048), gamV m c (ix1 l) = G (ix1 l) := fun c l => (gamV_at m c l).trans (congrFun (hG c) _)
  unfold outV
  split
  · rename_i h
    have e : lo ((i.val + 7) % 8 + 1) = i := Fin.ext (by show ((i.val + 7) % 8 + 1) % 8 = i.val; omega)
    rw [ownLo_at, e]
    simp only [hr, hg]
  · rename_i h
    have e : hi ((i.val + 1) % 8 + 7) = i := Fin.ext (by show 8 + ((i.val + 1) % 8 + 7) % 8 = i.val; omega)
    rw [ownHi_at, e]
    simp only [hr, hg]

/-- When device `c` holds block `c` of `A`, and all hold `R` and `G`, the kernel's result is the reference's. -/
theorem outG_eq (A : FVec Ideal Cert.ReferenceIdeal.S8x2048x2048 .bf16) (R : FVec Ideal S2048x2048 .bf16) (G : FVec Ideal S2048 .bf16)
    (hA : ∀ c : Dev nD, m ((c : Thread nD τ).loc main_arg0) = Layout.block ⟨3, ![1, 2048, 2048]⟩ ⟨3, ![8, 2048, 2048]⟩ 0 8 c A)
    (hR : ∀ c : Dev nD, m ((c : Thread nD τ).loc main_arg1) = R) (hG : ∀ c : Dev nD, m ((c : Thread nD τ).loc main_arg2) = G) :
    outG m = result A R G := by
  funext y
  rw [eq_ix2 y]
  generalize y 0 = r, y 1 = k
  have hx : ∀ (d : Dev nD) (i : Fin 16) (j : Fin 128) (l : Fin 2048), xRows m d i (ix3 0 j l) = A (ix3 d (rowOf i j) l) := fun d i j l =>
    ((xRows_at m d i j l).trans (congrFun (hA d) _)).trans (congrArg A (funext fun a => Fin.ext (by
      match a with
      | ⟨0, _⟩ => show d.val * 1 + 0 = d.val; omega
      | ⟨1, _⟩ => rfl
      | ⟨2, _⟩ => rfl)))
  have er : ∀ h h', rowOf ⟨r.val / 128, h⟩ ⟨r.val % 128, h'⟩ = r := fun h h' => Fin.ext (Nat.div_add_mod r.val 128)
  refine ((outV_at m R G hR hG _ _ k).trans ?_).trans (result_at A R G r k).symm
  simp only [hx]
  erw [er]

/-- The kernel read over the reals runs, with its arguments unchanged and every counter at zero. -/
theorem quiescent : Cert.quiescent_KernelIdeal := fun m ρ _ =>
  (θ_run defs _ _).mono (fun _ h => ⟨fun c => ⟨(h.1 c (0 : Fin 4)).trans (finalA_x m ρ c), (h.1 c (1 : Fin 4)).trans (finalA_res m ρ c),
    (h.1 c (2 : Fin 4)).trans (finalA_gam m ρ c)⟩, h.2⟩) (run_main (F := Ideal) m ρ)

/-- Over the reals the kernel's result on every device is the reference's. -/
theorem algebraic : Cert.algebraic_KernelIdeal_ReferenceIdeal := fun m ρ m' ρ' _ hagree =>
  ⟨_, (θ_run defs _ _).mono (fun _ h c => ⟨((h.1 c (3 : Fin 4)).trans (finalA_out m ρ c)).trans
        (outG_eq m _ _ _ (fun c => (hagree c).1) (fun c => (hagree c).2.1) (fun c => (hagree c).2.2)),
      (h.1 c (0 : Fin 4)).trans (finalA_x m ρ c), (h.1 c (1 : Fin 4)).trans (finalA_res m ρ c),
      (h.1 c (2 : Fin 4)).trans (finalA_gam m ρ c)⟩) (run_main (F := Ideal) m ρ),
    (θ_run Cert.ReferenceIdeal.defs _ _).mono (fun _ h => h 0) (Cert.ReferenceIdealProof.run_main m' ρ')⟩

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The kernel at its own formats runs, with its arguments unchanged and every counter at zero. -/
theorem quiescent_kernel : Cert.quiescent_Kernel := fun m ρ _ =>
  (θ_run Cert.Kernel.defs _ _).mono (fun _ h => ⟨fun c => ⟨(h.1 c (0 : Fin 4)).trans (Cert.KernelProof.finalA_x m ρ c),
    (h.1 c (1 : Fin 4)).trans (Cert.KernelProof.finalA_res m ρ c), (h.1 c (2 : Fin 4)).trans (Cert.KernelProof.finalA_gam m ρ c)⟩, h.2⟩)
    (Cert.KernelProof.run_main (F := Bits) m ρ)

theorem claim : Cert.Claim := ⟨Cert.Kernel.Gen.facts, Cert.KernelIdeal.Gen.facts, Cert.ReferenceIdeal.Gen.facts,
  quiescent_kernel, Cert.KernelIdealProof.quiescent, Cert.ReferenceIdealProof.quiescent, trivial, Cert.KernelIdealProof.algebraic⟩

end Cert.Proof

end
